-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores [hPre_scores : Cert.Pre_scores.Facts] (m : (ℓ : Loc Cert.KernelIdeal.nD Cert.KernelIdeal.τ Cert.KernelIdeal.sig) → Buf (Elt Ideal) ℓ) : Prop :=
  ∀ c : Dev Cert.KernelIdeal.nD,
    (Cert.Pre_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores [hPre_scores : Cert.Pre_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_scores [hKernelIdeal : Cert.KernelIdeal.Facts] [hPre_scores : Cert.Pre_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_scores [hReferenceIdeal : Cert.ReferenceIdeal.Facts] [hPre_scores : Cert.Pre_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_on_unmasked_pre_scores [hKernelIdeal : Cert.KernelIdeal.Facts] [hReferenceIdeal : Cert.ReferenceIdeal.Facts] [hPre_scores : Cert.Pre_scores.Facts] [hOn_unmasked : Cert.On_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![10000, 128]⟩ : Shape).Idx, (Cert.On_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.KernelIdeal.nD Cert.KernelIdeal.τ).loc Cert.KernelIdeal.main_v46) i = v0 c i)
          ∧ (∀ i : (⟨3, ![2, 10000, 32]⟩ : Shape).Idx, (Cert.On_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 i = 1#1 → r.2.mem ((c.tc : Thread Cert.KernelIdeal.nD Cert.KernelIdeal.τ).loc Cert.KernelIdeal.main_v58) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![10000, 128]⟩ : Shape).Idx, (Cert.On_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.ReferenceIdeal.nD Cert.ReferenceIdeal.τ).loc Cert.ReferenceIdeal.main_v83) i = v0 c i)
          ∧ (∀ i : (⟨3, ![2, 10000, 32]⟩ : Shape).Idx, (Cert.On_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 i = 1#1 → r.2.mem ((c.tc : Thread Cert.ReferenceIdeal.nD Cert.ReferenceIdeal.τ).loc Cert.ReferenceIdeal.main_v115) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_scores : Cert.Pre_scores.Facts) (hOn_unmasked : Cert.On_unmasked.Facts),
    quiescent_Kernel (hKernel := hKernel)
    ∧ quiescent_KernelIdeal (hKernelIdeal := hKernelIdeal)
    ∧ quiescent_KernelIdeal_pre_scores (hKernelIdeal := hKernelIdeal) (hPre_scores := hPre_scores)
    ∧ quiescent_ReferenceIdeal (hReferenceIdeal := hReferenceIdeal)
    ∧ quiescent_ReferenceIdeal_pre_scores (hReferenceIdeal := hReferenceIdeal) (hPre_scores := hPre_scores)
    ∧ preserves_Kernel_KernelIdeal
    ∧ algebraic_KernelIdeal_ReferenceIdeal_on_unmasked_pre_scores (hKernelIdeal := hKernelIdeal) (hReferenceIdeal := hReferenceIdeal) (hPre_scores := hPre_scores) (hOn_unmasked := hOn_unmasked)
-- ==== On_unmasked.lean ====
abbrev S10000x128 : Shape := ⟨2, ![10000, 128]⟩
abbrev S1x10000x32 : Shape := ⟨3, ![1, 10000, 32]⟩
abbrev S10000x32 : Shape := ⟨2, ![10000, 32]⟩
abbrev S128x1 : Shape := ⟨2, ![128, 1]⟩
abbrev S1 : Shape := ⟨1, ![1]⟩
abbrev S1x128x128 : Shape := ⟨3, ![1, 128, 128]⟩
abbrev S1x1x128 : Shape := ⟨3, ![1, 1, 128]⟩
abbrev S128x16 : Shape := ⟨2, ![128, 16]⟩
abbrev S1x16 : Shape := ⟨2, ![1, 16]⟩
abbrev S_ : Shape := ⟨0, ![]⟩
abbrev S10000 : Shape := ⟨1, ![10000]⟩
abbrev S10000x1 : Shape := ⟨2, ![10000, 1]⟩
abbrev S2x10000x32 : Shape := ⟨3, ![2, 10000, 32]⟩

class Facts : Prop where
  shapeCasts_S1x10000x32_S10000x32 : S1x10000x32.ShapeCasts S10000x32
  bcast_S_S10000x32 : S_.BroadcastsInDim S10000x32 (![] : Fin 0 → Fin S10000x32.rank)
  reducesTo_S10000x32_S10000_d1 : S10000x32.ReducesTo [1] S10000
  h_S_ : 0 < S_.numel
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S2x10000x32 : S_.BroadcastsInDim S2x10000x32 (![] : Fin 0 → Fin S2x10000x32.rank)

variable [Facts]

def fn {F : FTy → Type} [FloatOps F] (main_arg0 : FVec F S10000x128 .f32) (main_arg1 : IVec S1x10000x32 32) (main_arg2 : IVec S10000x32 32) (main_arg3 : FVec F S128x1 .f32) (main_arg4 : FVec F S128x1 .f32) (main_arg5 : FVec F S1 .f32) (main_arg6 : FVec F S1 .f32) (main_arg7 : FVec F S1x128x128 .f32) (main_arg8 : FVec F S1x1x128 .f32) (main_arg9 : FVec F S128x16 .f32) (main_arg10 : FVec F S1x16 .f32) (main_arg11 : FVec F S128x16 .f32) (main_arg12 : FVec F S1x16 .f32) : IVec S10000x128 1 × IVec S2x10000x32 1 :=
  let main_v0 : IVec S10000x32 32 := shapeCast S10000x32 main_arg1 shapeCasts_S1x10000x32_S10000x32
  let main_c : IVec S_ 32 := constantI S_ 32 9999#32
  let main_v1 : IVec S10000x32 32 := broadcastInDim S10000x32 ![] bcast_S_S10000x32 main_c
  let main_v2 : IVec S10000x32 1 := cmpi .ne main_v0 main_v1
  let main_c_0 : IVec S_ 1 := constantI S_ 1 1#1
  let main_v3 : IVec S10000 1 := (fun x v => Host.reduce IntOp.andi x v reducesTo_S10000x32_S10000_d1 h_S_) main_v2 main_c_0
  let main_v4 : IVec S10000x1 1 := broadcastInDim S10000x1 ![0] bcast_S10000_S10000x1_0 main_v3
  let main_v5 : IVec S10000x128 1 := broadcastInDim S10000x128 ![0, 1] bcast_S10000x1_S10000x128_0_1 main_v4
  let main_c_1 : IVec S_ 1 := constantI S_ 1 1#1
  let main_v6 : IVec S2x10000x32 1 := broadcastInDim S2x10000x32 ![] bcast_S_S2x10000x32 main_c_1
  (main_v5, main_v6)
-- ==== Pre_scores.lean ====
abbrev S10000x128 : Shape := ⟨2, ![10000, 128]⟩
abbrev S1x10000x32 : Shape := ⟨3, ![1, 10000, 32]⟩
abbrev S10000x32 : Shape := ⟨2, ![10000, 32]⟩
abbrev S128x1 : Shape := ⟨2, ![128, 1]⟩
abbrev S1 : Shape := ⟨1, ![1]⟩
abbrev S1x128x128 : Shape := ⟨3, ![1, 128, 128]⟩
abbrev S1x1x128 : Shape := ⟨3, ![1, 1, 128]⟩
abbrev S128x16 : Shape := ⟨2, ![128, 16]⟩
abbrev S1x16 : Shape := ⟨2, ![1, 16]⟩
abbrev S128x128 : Shape := ⟨2, ![128, 128]⟩
abbrev S1x128 : Shape := ⟨2, ![1, 128]⟩
abbrev S10000x1 : Shape := ⟨2, ![10000, 1]⟩
abbrev S1x1 : Shape := ⟨2, ![1, 1]⟩
abbrev S_ : Shape := ⟨0, ![]⟩

class Facts : Prop where
  shapeCasts_S1x128x128_S128x128 : S1x128x128.ShapeCasts S128x128
  shapeCasts_S1x1x128_S1x128 : S1x1x128.ShapeCasts S1x128
  bcast_S1x128_S10000x128_0_1 : S1x128.BroadcastsInDim S10000x128 (![0, 1] : Fin 2 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S1x10000x32 : S_.BroadcastsInDim S1x10000x32 (![] : Fin 0 → Fin S1x10000x32.rank)
  reducesTo_S1x10000x32_S_d0_1_2 : S1x10000x32.ReducesTo [0, 1, 2] S_
  h_S_ : 0 < S_.numel
  bcast_S_S10000x32 : S_.BroadcastsInDim S10000x32 (![] : Fin 0 → Fin S10000x32.rank)
  reducesTo_S10000x32_S_d0_1 : S10000x32.ReducesTo [0, 1] S_
  bcast_S_S10000x1 : S_.BroadcastsInDim S10000x1 (![] : Fin 0 → Fin S10000x1.rank)
  reducesTo_S10000x1_S_d0_1 : S10000x1.ReducesTo [0, 1] S_
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def fn_part2 {F : FTy → Type} [FloatOps F] (main_v32 : IVec S_ 1) (main_v36 : IVec S_ 1) : IVec S_ 1 :=
  let main_v37 : IVec S_ 1 := andi main_v32 main_v36
  main_v37

def fn_part1 {F : FTy → Type} [FloatOps F] (main_arg2 : IVec S10000x32 32) (main_v8 : FVec F S10000x1 .f32) (main_v12 : FVec F S10000x1 .f32) (main_v18 : IVec S_ 1) (main_v19 : IVec S10000x32 32) : IVec S_ 1 :=
  let main_v20 : IVec S10000x32 1 := cmpi .sge main_arg2 main_v19
  let main_c_3 : IVec S_ 32 := constantI S_ 32 10000#32
  let main_v21 : IVec S10000x32 32 := broadcastInDim S10000x32 ![] bcast_S_S10000x32 main_c_3
  let main_v22 : IVec S10000x32 1 := cmpi .slt main_arg2 main_v21
  let main_v23 : IVec S10000x32 1 := andi main_v20 main_v22
  let main_c_4 : IVec S_ 1 := constantI S_ 1 1#1
  let main_v24 : IVec S_ 1 := (fun x v => Host.reduce IntOp.andi x v reducesTo_S10000x32_S_d0_1 h_S_) main_v23 main_c_4
  let main_v25 : IVec S_ 1 := andi main_v18 main_v24
  let main_cst : FVec F S_ .f32 := constant S_ .f32 0xF149F2CA#32
  let main_v26 : FVec F S10000x1 .f32 := broadcastInDim S10000x1 ![] bcast_S_S10000x1 main_cst
  let main_v27 : IVec S10000x1 1 := cmpf .ogt main_v8 main_v26
  let main_cst_5 : FVec F S_ .f32 := constant S_ .f32 0x7F800000#32
  let main_v28 : FVec F S10000x1 .f32 := broadcastInDim S10000x1 ![] bcast_S_S10000x1 main_cst_5
  let main_v29 : IVec S10000x1 1 := cmpf .olt main_v8 main_v28
  let main_v30 : IVec S10000x1 1 := andi main_v27 main_v29
  let main_c_6 : IVec S_ 1 := constantI S_ 1 1#1
  let main_v31 : IVec S_ 1 := (fun x v => Host.reduce IntOp.andi x v reducesTo_S10000x1_S_d0_1 h_S_) main_v30 main_c_6
  let main_v32 : IVec S_ 1 := andi main_v25 main_v31
  let main_v33 : FVec F S10000x1 .f32 := Host.absf main_v12
  let main_cst_7 : FVec F S_ .f32 := constant S_ .f32 0x7F800000#32
  let main_v34 : FVec F S10000x1 .f32 := broadcastInDim S10000x1 ![] bcast_S_S10000x1 main_cst_7
  let main_v35 : IVec S10000x1 1 := cmpf .olt main_v33 main_v34
  let main_c_8 : IVec S_ 1 := constantI S_ 1 1#1
  let main_v36 : IVec S_ 1 := (fun x v => Host.reduce IntOp.andi x v reducesTo_S10000x1_S_d0_1 h_S_) main_v35 main_c_8
  fn_part2 (F := F) main_v32 main_v36

def fn {F : FTy → Type} [FloatOps F] (main_arg0 : FVec F S10000x128 .f32) (main_arg1 : IVec S1x10000x32 32) (main_arg2 : IVec S10000x32 32) (main_arg3 : FVec F S128x1 .f32) (main_arg4 : FVec F S128x1 .f32) (main_arg5 : FVec F S1 .f32) (main_arg6 : FVec F S1 .f32) (main_arg7 : FVec F S1x128x128 .f32) (main_arg8 : FVec F S1x1x128 .f32) (main_arg9 : FVec F S128x16 .f32) (main_arg10 : FVec F S1x16 .f32) (main_arg11 : FVec F S128x16 .f32) (main_arg12 : FVec F S1x16 .f32) : IVec S_ 1 :=
  let main_v0 : FVec F S128x128 .f32 := shapeCast S128x128 main_arg7 shapeCasts_S1x128x128_S128x128
  let main_v1 : FVec F S10000x128 .f32 := (fun l r => Host.dotGeneral dot_S10000x128_S128x128_S10000x128_1_0_0_1_n_n none l r) main_arg0 main_v0
  let main_v2 : FVec F S1x128 .f32 := shapeCast S1x128 main_arg8 shapeCasts_S1x1x128_S1x128
  let main_v3 : FVec F S10000x128 .f32 := broadcastInDim S10000x128 ![0, 1] bcast_S1x128_S10000x128_0_1 main_v2
  let main_v4 : FVec F S10000x128 .f32 := addf main_v1 main_v3
  let main_v5 : FVec F S10000x1 .f32 := (fun l r => Host.dotGeneral dot_S10000x128_S128x1_S10000x1_1_0_0_1_n_n none l r) main_v4 main_arg3
  let main_v6 : FVec F S1x1 .f32 := broadcastInDim S1x1 ![1] bcast_S1_S1x1_1 main_arg5
  let main_v7 : FVec F S10000x1 .f32 := broadcastInDim S10000x1 ![0, 1] bcast_S1x1_S10000x1_0_1 main_v6
  let main_v8 : FVec F S10000x1 .f32 := addf main_v5 main_v7
  let main_v9 : FVec F S10000x1 .f32 := (fun l r => Host.dotGeneral dot_S10000x128_S128x1_S10000x1_1_0_0_1_n_n none l r) main_v4 main_arg4
  let main_v10 : FVec F S1x1 .f32 := broadcastInDim S1x1 ![1] bcast_S1_S1x1_1 main_arg6
  let main_v11 : FVec F S10000x1 .f32 := broadcastInDim S10000x1 ![0, 1] bcast_S1x1_S10000x1_0_1 main_v10
  let main_v12 : FVec F S10000x1 .f32 := addf main_v9 main_v11
  let main_c : IVec S_ 32 := constantI S_ 32 0#32
  let main_v13 : IVec S1x10000x32 32 := broadcastInDim S1x10000x32 ![] bcast_S_S1x10000x32 main_c
  let main_v14 : IVec S1x10000x32 1 := cmpi .sge main_arg1 main_v13
  let main_c_0 : IVec S_ 32 := constantI S_ 32 10000#32
  let main_v15 : IVec S1x10000x32 32 := broadcastInDim S1x10000x32 ![] bcast_S_S1x10000x32 main_c_0
  let main_v16 : IVec S1x10000x32 1 := cmpi .slt main_arg1 main_v15
  let main_v17 : IVec S1x10000x32 1 := andi main_v14 main_v16
  let main_c_1 : IVec S_ 1 := constantI S_ 1 1#1
  let main_v18 : IVec S_ 1 := (fun x v => Host.reduce IntOp.andi x v reducesTo_S1x10000x32_S_d0_1_2 h_S_) main_v17 main_c_1
  let main_c_2 : IVec S_ 32 := constantI S_ 32 0#32
  let main_v19 : IVec S10000x32 32 := broadcastInDim S10000x32 ![] bcast_S_S10000x32 main_c_2
  fn_part1 (F := F) main_arg2 main_v8 main_v12 main_v18 main_v19
-- ==== Kernel.lean ====
abbrev S10000x128 : Shape := ⟨2, ![10000, 128]⟩
abbrev S1x10000x32 : Shape := ⟨3, ![1, 10000, 32]⟩
abbrev S10000x32 : Shape := ⟨2, ![10000, 32]⟩
abbrev S128x1 : Shape := ⟨2, ![128, 1]⟩
abbrev S1 : Shape := ⟨1, ![1]⟩
abbrev S1x128x128 : Shape := ⟨3, ![1, 128, 128]⟩
abbrev S1x1x128 : Shape := ⟨3, ![1, 1, 128]⟩
abbrev S128x16 : Shape := ⟨2, ![128, 16]⟩
abbrev S1x16 : Shape := ⟨2, ![1, 16]⟩
abbrev S128x128 : Shape := ⟨2, ![128, 128]⟩
abbrev S1x128 : Shape := ⟨2, ![1, 128]⟩
abbrev S1x1 : Shape := ⟨2, ![1, 1]⟩
abbrev S10000x16 : Shape := ⟨2, ![10000, 16]⟩
abbrev S10000x1 : Shape := ⟨2, ![10000, 1]⟩
abbrev S1000x128 : Shape := ⟨2, ![1000, 128]⟩
abbrev S1000x16 : Shape := ⟨2, ![1000, 16]⟩
abbrev S1000x1 : Shape := ⟨2, ![1000, 1]⟩
abbrev S10000 : Shape := ⟨1, ![10000]⟩
abbrev S320000 : Shape := ⟨1, ![320000]⟩
abbrev S_ : Shape := ⟨0, ![]⟩
abbrev S320000x1 : Shape := ⟨2, ![320000, 1]⟩
abbrev S320000x16 : Shape := ⟨2, ![320000, 16]⟩
abbrev S10000x32x16 : Shape := ⟨3, ![10000, 32, 16]⟩
abbrev S320000x128 : Shape := ⟨2, ![320000, 128]⟩
abbrev S10000x32x128 : Shape := ⟨3, ![10000, 32, 128]⟩
abbrev S320000x32 : Shape := ⟨2, ![320000, 32]⟩
abbrev S10000x1024 : Shape := ⟨2, ![10000, 1024]⟩
abbrev S10240000 : Shape := ⟨1, ![10240000]⟩
abbrev S10240000x1 : Shape := ⟨2, ![10240000, 1]⟩
abbrev S10000x32x1 : Shape := ⟨3, ![10000, 32, 1]⟩
abbrev S1x1x1 : Shape := ⟨3, ![1, 1, 1]⟩
abbrev S2x10000x32 : Shape := ⟨3, ![2, 10000, 32]⟩

abbrev nBuf : Space → Nat
  | .hbm => 204
  | .vmem => 22
  | .smem => 0
  | _ => 0

abbrev hbmTy0_0 (i : Nat) : BufTy := match i % 128 with
  | 0 => ⟨S10000x128, .f32⟩
  | 1 => ⟨S1x10000x32, .i32⟩
  | 2 => ⟨S10000x32, .i32⟩
  | 3 => ⟨S128x1, .f32⟩
  | 4 => ⟨S128x1, .f32⟩
  | 5 => ⟨S1, .f32⟩
  | 6 => ⟨S1, .f32⟩
  | 7 => ⟨S1x128x128, .f32⟩
  | 8 => ⟨S1x1x128, .f32⟩
  | 9 => ⟨S128x16, .f32⟩
  | 10 => ⟨S1x16, .f32⟩
  | 11 => ⟨S128x16, .f32⟩
  | 12 => ⟨S1x16, .f32⟩
  | 13 => ⟨S10000x32, .i32⟩
  | 14 => ⟨S128x128, .f32⟩
  | 15 => ⟨S1x128, .f32⟩
  | 16 => ⟨S1x1, .f32⟩
  | 17 => ⟨S1x1, .f32⟩
  | 18 => ⟨S10000x128, .f32⟩
  | 19 => ⟨S10000x16, .f32⟩
  | 20 => ⟨S10000x16, .f32⟩
  | 21 => ⟨S10000x1, .f32⟩
  | 22 => ⟨S10000x1, .f32⟩
  | 23 => ⟨S10000, .f32⟩
  | 24 => ⟨S320000, .i32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S1, .i32⟩
  | 34 => ⟨S_, .i32⟩
  | 35 => ⟨S320000x1, .i32⟩
  | 36 => ⟨S320000x1, .i1⟩
  | 37 => ⟨S1x1, .i32⟩
  | 38 => ⟨S320000x1, .i32⟩
  | 39 => ⟨S320000x1, .i1⟩
  | 40 => ⟨S320000x1, .i1⟩
  | 41 => ⟨S_, .i1⟩
  | 42 => ⟨S320000, .i1⟩
  | 43 => ⟨S320000x16, .f32⟩
  | 44 => ⟨S320000x16, .i1⟩
  | 45 => ⟨S_, .f32⟩
  | 46 => ⟨S320000x16, .f32⟩
  | 47 => ⟨S320000x16, .f32⟩
  | 48 => ⟨S10000x32x16, .f32⟩
  | 49 => ⟨S10000x32, .f32⟩
  | 50 => ⟨S_, .f32⟩
  | 51 => ⟨S10000x32, .f32⟩
  | 52 => ⟨S10000x32, .i1⟩
  | 53 => ⟨S_, .f32⟩
  | 54 => ⟨S10000x32, .f32⟩
  | 55 => ⟨S10000x32, .f32⟩
  | 56 => ⟨S10000x32, .f32⟩
  | 57 => ⟨S_, .i32⟩
  | 58 => ⟨S10000x32, .i32⟩
  | 59 => ⟨S10000x32, .i1⟩
  | 60 => ⟨S_, .f32⟩
  | 61 => ⟨S_, .f32⟩
  | 62 => ⟨S10000x32, .f32⟩
  | 63 => ⟨S10000x32, .f32⟩
  | 64 => ⟨S_, .f32⟩
  | 65 => ⟨S10000, .f32⟩
  | 66 => ⟨S_, .f32⟩
  | 67 => ⟨S10000, .f32⟩
  | 68 => ⟨S10000, .f32⟩
  | 69 => ⟨S10000x1, .f32⟩
  | 70 => ⟨S10000x32, .f32⟩
  | 71 => ⟨S10000x32, .f32⟩
  | 72 => ⟨S10000x32, .f32⟩
  | 73 => ⟨S_, .f32⟩
  | 74 => ⟨S10000, .f32⟩
  | 75 => ⟨S10000x1, .f32⟩
  | 76 => ⟨S10000x32, .f32⟩
  | 77 => ⟨S10000x32, .f32⟩
  | 78 => ⟨S_, .f32⟩
  | 79 => ⟨S10000, .f32⟩
  | 80 => ⟨S_, .f32⟩
  | 81 => ⟨S10000, .f32⟩
  | 82 => ⟨S10000, .f32⟩
  | 83 => ⟨S10000x1, .f32⟩
  | 84 => ⟨S10000x32, .f32⟩
  | 85 => ⟨S10000x32, .f32⟩
  | 86 => ⟨S10000x32, .f32⟩
  | 87 => ⟨S_, .f32⟩
  | 88 => ⟨S10000, .f32⟩
  | 89 => ⟨S10000x1, .f32⟩
  | 90 => ⟨S10000x32, .f32⟩
  | 91 => ⟨S10000x32, .f32⟩
  | 92 => ⟨S320000, .i32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S1, .i32⟩
  | 102 => ⟨S_, .i32⟩
  | 103 => ⟨S320000x1, .i32⟩
  | 104 => ⟨S320000x1, .i1⟩
  | 105 => ⟨S1x1, .i32⟩
  | 106 => ⟨S320000x1, .i32⟩
  | 107 => ⟨S320000x1, .i1⟩
  | 108 => ⟨S320000x1, .i1⟩
  | 109 => ⟨S_, .i1⟩
  | 110 => ⟨S320000, .i1⟩
  | 111 => ⟨S320000x128, .f32⟩
  | 112 => ⟨S320000x128, .i1⟩
  | 113 => ⟨S_, .f32⟩
  | 114 => ⟨S320000x128, .f32⟩
  | 115 => ⟨S320000x128, .f32⟩
  | 116 => ⟨S10000x32x128, .f32⟩
  | 117 => ⟨S10000x128, .f32⟩
  | 118 => ⟨S10000x128, .f32⟩
  | 119 => ⟨S_, .f32⟩
  | 120 => ⟨S10000x128, .f32⟩
  | 121 => ⟨S10000x128, .f32⟩
  | 122 => ⟨S320000, .i32⟩
  | 123 => ⟨S_, .i32⟩
  | 124 => ⟨S320000, .i32⟩
  | 125 => ⟨S320000, .i1⟩
  | 126 => ⟨S_, .i32⟩
  | 127 => ⟨S320000, .i32⟩
  | _ => ⟨S10000x128, .f32⟩

abbrev hbmTy0_1 (i : Nat) : BufTy := match i % 128 with
  | 0 => ⟨S320000, .i32⟩
  | 1 => ⟨S320000, .i32⟩
  | 2 => ⟨S320000x1, .i32⟩
  | 3 => ⟨S1, .i32⟩
  | 4 => ⟨S_, .i32⟩
  | 5 => ⟨S320000x1, .i32⟩
  | 6 => ⟨S320000x1, .i1⟩
  | 7 => ⟨S1x1, .i32⟩
  | 8 => ⟨S320000x1, .i32⟩
  | 9 => ⟨S320000x1, .i1⟩
  | 10 => ⟨S320000x1, .i1⟩
  | 11 => ⟨S_, .i1⟩
  | 12 => ⟨S320000, .i1⟩
  | 13 => ⟨S320000x32, .i32⟩
  | 14 => ⟨S320000x32, .i1⟩
  | 15 => ⟨S_, .i32⟩
  | 16 => ⟨S320000x32, .i32⟩
  | 17 => ⟨S320000x32, .i32⟩
  | 18 => ⟨S10000x1024, .i32⟩
  | 19 => ⟨S10240000, .i32⟩
  | 20 => ⟨S_, .i32⟩
  | 21 => ⟨S10240000, .i32⟩
  | 22 => ⟨S10240000, .i1⟩
  | 23 => ⟨S_, .i32⟩
  | 24 => ⟨S10240000, .i32⟩
  | 25 => ⟨S10240000, .i32⟩
  | 26 => ⟨S10240000, .i32⟩
  | 27 => ⟨S10240000x1, .i32⟩
  | 28 => ⟨S1, .i32⟩
  | 29 => ⟨S_, .i32⟩
  | 30 => ⟨S10240000x1, .i32⟩
  | 31 => ⟨S10240000x1, .i1⟩
  | 32 => ⟨S1x1, .i32⟩
  | 33 => ⟨S10240000x1, .i32⟩
  | 34 => ⟨S10240000x1, .i1⟩
  | 35 => ⟨S10240000x1, .i1⟩
  | 36 => ⟨S_, .i1⟩
  | 37 => ⟨S10240000, .i1⟩
  | 38 => ⟨S10240000, .f32⟩
  | 39 => ⟨S_, .f32⟩
  | 40 => ⟨S10240000, .f32⟩
  | 41 => ⟨S10240000, .f32⟩
  | 42 => ⟨S10000x1024, .f32⟩
  | 43 => ⟨S_, .i32⟩
  | 44 => ⟨S10000x1024, .i32⟩
  | 45 => ⟨S10000x1024, .i1⟩
  | 46 => ⟨S_, .f32⟩
  | 47 => ⟨S_, .f32⟩
  | 48 => ⟨S10000x1024, .f32⟩
  | 49 => ⟨S10000x1024, .f32⟩
  | 50 => ⟨S10000x32, .f32⟩
  | 51 => ⟨S10000x32, .i32⟩
  | 52 => ⟨S_, .i32⟩
  | 53 => ⟨S10000x32, .i32⟩
  | 54 => ⟨S10000x32, .i1⟩
  | 55 => ⟨S_, .i32⟩
  | 56 => ⟨S10000x32, .i32⟩
  | 57 => ⟨S10000x32, .i32⟩
  | 58 => ⟨S10000x32, .i32⟩
  | 59 => ⟨S10000x32x1, .i32⟩
  | 60 => ⟨S1, .i32⟩
  | 61 => ⟨S_, .i32⟩
  | 62 => ⟨S10000x32x1, .i32⟩
  | 63 => ⟨S10000x32x1, .i1⟩
  | 64 => ⟨S1x1x1, .i32⟩
  | 65 => ⟨S10000x32x1, .i32⟩
  | 66 => ⟨S10000x32x1, .i1⟩
  | 67 => ⟨S10000x32x1, .i1⟩
  | 68 => ⟨S_, .i1⟩
  | 69 => ⟨S10000x32, .i1⟩
  | 70 => ⟨S10000x32, .i32⟩
  | 71 => ⟨S_, .i32⟩
  | 72 => ⟨S10000x32, .i32⟩
  | 73 => ⟨S10000x32, .i32⟩
  | 74 => ⟨S1x10000x32, .i32⟩
  | 75 => ⟨S2x10000x32, .i32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S128x16, .f32⟩
  | .local _ .vmem, ⟨5, _⟩ => ⟨S1x16, .f32⟩
  | .local _ .vmem, ⟨6, _⟩ => ⟨S128x16, .f32⟩
  | .local _ .vmem, ⟨7, _⟩ => ⟨S1x16, .f32⟩
  | .local _ .vmem, ⟨8, _⟩ => ⟨S128x1, .f32⟩
  | .local _ .vmem, ⟨9, _⟩ => ⟨S128x1, .f32⟩
  | .local _ .vmem, ⟨10, _⟩ => ⟨S1x1, .f32⟩
  | .local _ .vmem, ⟨11, _⟩ => ⟨S1x1, .f32⟩
  | .local _ .vmem, ⟨12, _⟩ => ⟨S1000x128, .f32⟩
  | .local _ .vmem, ⟨13, _⟩ => ⟨S1000x128, .f32⟩
  | .local _ .vmem, ⟨14, _⟩ => ⟨S1000x16, .f32⟩
  | .local _ .vmem, ⟨15, _⟩ => ⟨S1000x16, .f32⟩
  | .local _ .vmem, ⟨16, _⟩ => ⟨S1000x16, .f32⟩
  | .local _ .vmem, ⟨17, _⟩ => ⟨S1000x16, .f32⟩
  | .local _ .vmem, ⟨18, _⟩ => ⟨S1000x1, .f32⟩
  | .local _ .vmem, ⟨19, _⟩ => ⟨S1000x1, .f32⟩
  | .local _ .vmem, ⟨20, _⟩ => ⟨S1000x1, .f32⟩
  | .local _ .vmem, ⟨21, _⟩ => ⟨S1000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev main_v5_4 : Ref sig .tc := ⟨.hbm, 22, rfl⟩
abbrev main_v6 : Ref sig .tc := ⟨.hbm, 23, rfl⟩
abbrev main_v7 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_v11 : Ref sig .tc := ⟨.hbm, 51, rfl⟩
abbrev main_v12 : Ref sig .tc := ⟨.hbm, 52, rfl⟩
abbrev main_cst_0 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c : Ref sig .tc := ⟨.hbm, 57, rfl⟩
abbrev main_v16 : Ref sig .tc := ⟨.hbm, 58, rfl⟩
abbrev main_v17 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_v18 : Ref sig .tc := ⟨.hbm, 63, rfl⟩
abbrev main_cst_2 : Ref sig .tc := ⟨.hbm, 64, rfl⟩
abbrev main_v19 : Ref sig .tc := ⟨.hbm, 65, rfl⟩
abbrev main_cst_3 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_4 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_5 : Ref sig .tc := ⟨.hbm, 78, rfl⟩
abbrev main_v30 : Ref sig .tc := ⟨.hbm, 79, rfl⟩
abbrev main_cst_6 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_call4_cst : Ref sig .tc := ⟨.hbm, 119, rfl⟩
abbrev main_call4_v0 : Ref sig .tc := ⟨.hbm, 120, rfl⟩
abbrev main_v46 : Ref sig .tc := ⟨.hbm, 121, rfl⟩
abbrev main_v47 : Ref sig .tc := ⟨.hbm, 122, rfl⟩
abbrev main_call5_c : Ref sig .tc := ⟨.hbm, 123, rfl⟩
abbrev main_call5_v0 : Ref sig .tc := ⟨.hbm, 124, rfl⟩
abbrev main_call5_v1 : Ref sig .tc := ⟨.hbm, 125, rfl⟩
abbrev main_call5_c_0 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_c_1 : Ref sig .tc := ⟨.hbm, 131, rfl⟩
abbrev main_call5_c_2 : Ref sig .tc := ⟨.hbm, 132, rfl⟩
abbrev main_call5_v6 : Ref sig .tc := ⟨.hbm, 133, rfl⟩
abbrev main_call5_v7 : Ref sig .tc := ⟨.hbm, 134, rfl⟩
abbrev main_call5_v8 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_c_3 : Ref sig .tc := ⟨.hbm, 139, rfl⟩
abbrev main_call5_v12 : Ref sig .tc := ⟨.hbm, 140, rfl⟩
abbrev main_call5_v13 : Ref sig .tc := ⟨.hbm, 141, rfl⟩
abbrev main_call5_v14 : Ref sig .tc := ⟨.hbm, 142, rfl⟩
abbrev main_call5_c_4 : Ref sig .tc := ⟨.hbm, 143, rfl⟩
abbrev main_call5_v15 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_call6_c : Ref sig .tc := ⟨.hbm, 148, rfl⟩
abbrev main_call6_v0 : Ref sig .tc := ⟨.hbm, 149, rfl⟩
abbrev main_call6_v1 : Ref sig .tc := ⟨.hbm, 150, rfl⟩
abbrev main_call6_c_0 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_call6_v5 : Ref sig .tc := ⟨.hbm, 155, rfl⟩
abbrev main_call6_c_1 : Ref sig .tc := ⟨.hbm, 156, rfl⟩
abbrev main_call6_c_2 : Ref sig .tc := ⟨.hbm, 157, rfl⟩
abbrev main_call6_v6 : Ref sig .tc := ⟨.hbm, 158, rfl⟩
abbrev main_call6_v7 : Ref sig .tc := ⟨.hbm, 159, rfl⟩
abbrev main_call6_v8 : Ref sig .tc := ⟨.hbm, 160, rfl⟩
abbrev main_call6_v9 : Ref sig .tc := ⟨.hbm, 161, rfl⟩
abbrev main_call6_v10 : Ref sig .tc := ⟨.hbm, 162, rfl⟩
abbrev main_call6_v11 : Ref sig .tc := ⟨.hbm, 163, rfl⟩
abbrev main_call6_c_3 : Ref sig .tc := ⟨.hbm, 164, rfl⟩
abbrev main_call6_v12 : Ref sig .tc := ⟨.hbm, 165, rfl⟩
abbrev main_call6_v13 : Ref sig .tc := ⟨.hbm, 166, rfl⟩
abbrev main_call6_cst : Ref sig .tc := ⟨.hbm, 167, rfl⟩
abbrev main_call6_v14 : Ref sig .tc := ⟨.hbm, 168, rfl⟩
abbrev main_v51 : Ref sig .tc := ⟨.hbm, 169, rfl⟩
abbrev main_v52 : Ref sig .tc := ⟨.hbm, 170, rfl⟩
abbrev main_c_8 : Ref sig .tc := ⟨.hbm, 171, rfl⟩
abbrev main_v53 : Ref sig .tc := ⟨.hbm, 172, rfl⟩
abbrev main_v54 : Ref sig .tc := ⟨.hbm, 173, rfl⟩
abbrev main_cst_9 : Ref sig .tc := ⟨.hbm, 174, rfl⟩
abbrev main_call7_v0 : Ref sig .tc := ⟨.hbm, 175, rfl⟩
abbrev main_call7_v1 : Ref sig .tc := ⟨.hbm, 176, rfl⟩
abbrev main_v55 : Ref sig .tc := ⟨.hbm, 177, rfl⟩
abbrev main_values : Ref sig .tc := ⟨.hbm, 178, rfl⟩
abbrev main_indices : Ref sig .tc := ⟨.hbm, 179, rfl⟩
abbrev main_call8_c : Ref sig .tc := ⟨.hbm, 180, rfl⟩
abbrev main_call8_v0 : Ref sig .tc := ⟨.hbm, 181, rfl⟩
abbrev main_call8_v1 : Ref sig .tc := ⟨.hbm, 182, rfl⟩
abbrev main_call8_c_0 : Ref sig .tc := ⟨.hbm, 183, rfl⟩
abbrev main_call8_v2 : Ref sig .tc := ⟨.hbm, 184, rfl⟩
abbrev main_call8_v3 : Ref sig .tc := ⟨.hbm, 185, rfl⟩
abbrev main_call8_v4 : Ref sig .tc := ⟨.hbm, 186, rfl⟩
abbrev main_call8_v5 : Ref sig .tc := ⟨.hbm, 187, rfl⟩
abbrev main_call8_c_1 : Ref sig .tc := ⟨.hbm, 188, rfl⟩
abbrev main_call8_c_2 : Ref sig .tc := ⟨.hbm, 189, rfl⟩
abbrev main_call8_v6 : Ref sig .tc := ⟨.hbm, 190, rfl⟩
abbrev main_call8_v7 : Ref sig .tc := ⟨.hbm, 191, rfl⟩
abbrev main_call8_v8 : Ref sig .tc := ⟨.hbm, 192, rfl⟩
abbrev main_call8_v9 : Ref sig .tc := ⟨.hbm, 193, rfl⟩
abbrev main_call8_v10 : Ref sig .tc := ⟨.hbm, 194, rfl⟩
abbrev main_call8_v11 : Ref sig .tc := ⟨.hbm, 195, rfl⟩
abbrev main_call8_c_3 : Ref sig .tc := ⟨.hbm, 196, rfl⟩
abbrev main_call8_v12 : Ref sig .tc := ⟨.hbm, 197, rfl⟩
abbrev main_call8_v13 : Ref sig .tc := ⟨.hbm, 198, rfl⟩
abbrev main_call8_c_4 : Ref sig .tc := ⟨.hbm, 199, rfl⟩
abbrev main_call8_v14 : Ref sig .tc := ⟨.hbm, 200, rfl⟩
abbrev main_v56 : Ref sig .tc := ⟨.hbm, 201, rfl⟩
abbrev main_v57 : Ref sig .tc := ⟨.hbm, 202, rfl⟩
abbrev main_v58 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1000x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1000x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1000x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S10000x128 : Shape := ⟨2, ![10000, 128]⟩
abbrev S1x10000x32 : Shape := ⟨3, ![1, 10000, 32]⟩
abbrev S10000x32 : Shape := ⟨2, ![10000, 32]⟩
abbrev S128x1 : Shape := ⟨2, ![128, 1]⟩
abbrev S1 : Shape := ⟨1, ![1]⟩
abbrev S1x128x128 : Shape := ⟨3, ![1, 128, 128]⟩
abbrev S1x1x128 : Shape := ⟨3, ![1, 1, 128]⟩
abbrev S128x16 : Shape := ⟨2, ![128, 16]⟩
abbrev S1x16 : Shape := ⟨2, ![1, 16]⟩
abbrev S10000x16 : Shape := ⟨2, ![10000, 16]⟩
abbrev S128x128 : Shape := ⟨2, ![128, 128]⟩
abbrev S1x128 : Shape := ⟨2, ![1, 128]⟩
abbrev S1x10000x128 : Shape := ⟨3, ![1, 10000, 128]⟩
abbrev S10000x1 : Shape := ⟨2, ![10000, 1]⟩
abbrev S10000 : Shape := ⟨1, ![10000]⟩
abbrev S320000 : Shape := ⟨1, ![320000]⟩
abbrev S10000x1x16 : Shape := ⟨3, ![10000, 1, 16]⟩
abbrev S_ : Shape := ⟨0, ![]⟩
abbrev S320000x1 : Shape := ⟨2, ![320000, 1]⟩
abbrev S1x1 : Shape := ⟨2, ![1, 1]⟩
abbrev S320000x16 : Shape := ⟨2, ![320000, 16]⟩
abbrev S10000x32x16 : Shape := ⟨3, ![10000, 32, 16]⟩
abbrev S10000x32x1 : Shape := ⟨3, ![10000, 32, 1]⟩
abbrev S1x1x1 : Shape := ⟨3, ![1, 1, 1]⟩
abbrev S320000x128 : Shape := ⟨2, ![320000, 128]⟩
abbrev S10000x32x128 : Shape := ⟨3, ![10000, 32, 128]⟩
abbrev S320000x32 : Shape := ⟨2, ![320000, 32]⟩
abbrev S10240000 : Shape := ⟨1, ![10240000]⟩
abbrev S10240000x1 : Shape := ⟨2, ![10240000, 1]⟩
abbrev S10000x1024 : Shape := ⟨2, ![10000, 1024]⟩
abbrev S2x10000x32 : Shape := ⟨3, ![2, 10000, 32]⟩

abbrev nBuf : Space → Nat
  | .hbm => 307
  | .vmem => 0
  | .smem => 0
  | _ => 0

abbrev hbmTy0_0 (i : Nat) : BufTy := match i % 128 with
  | 0 => ⟨S10000x128, .f32⟩
  | 1 => ⟨S1x10000x32, .i32⟩
  | 2 => ⟨S10000x32, .i32⟩
  | 3 => ⟨S128x1, .f32⟩
  | 4 => ⟨S128x1, .f32⟩
  | 5 => ⟨S1, .f32⟩
  | 6 => ⟨S1, .f32⟩
  | 7 => ⟨S1x128x128, .f32⟩
  | 8 => ⟨S1x1x128, .f32⟩
  | 9 => ⟨S128x16, .f32⟩
  | 10 => ⟨S1x16, .f32⟩
  | 11 => ⟨S128x16, .f32⟩
  | 12 => ⟨S1x16, .f32⟩
  | 13 => ⟨S10000x16, .f32⟩
  | 14 => ⟨S10000x16, .f32⟩
  | 15 => ⟨S10000x16, .f32⟩
  | 16 => ⟨S10000x16, .f32⟩
  | 17 => ⟨S10000x16, .f32⟩
  | 18 => ⟨S10000x16, .f32⟩
  | 19 => ⟨S128x128, .f32⟩
  | 20 => ⟨S10000x128, .f32⟩
  | 21 => ⟨S1x128, .f32⟩
  | 22 => ⟨S10000x128, .f32⟩
  | 23 => ⟨S10000x128, .f32⟩
  | 24 => ⟨S1x10000x128, .f32⟩
  | 25 => ⟨S10000x1, .f32⟩
  | 26 => ⟨S10000, .f32⟩
  | 27 => ⟨S10000, .f32⟩
  | 28 => ⟨S10000, .f32⟩
  | 29 => ⟨S10000x1, .f32⟩
  | 30 => ⟨S10000, .f32⟩
  | 31 => ⟨S10000, .f32⟩
  | 32 => ⟨S10000, .f32⟩
  | 33 => ⟨S10000x32, .i32⟩
  | 34 => ⟨S320000, .i32⟩
  | 35 => ⟨S10000x1x16, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S1, .i32⟩
  | 45 => ⟨S_, .i32⟩
  | 46 => ⟨S320000x1, .i32⟩
  | 47 => ⟨S320000x1, .i1⟩
  | 48 => ⟨S1x1, .i32⟩
  | 49 => ⟨S320000x1, .i32⟩
  | 50 => ⟨S320000x1, .i1⟩
  | 51 => ⟨S320000x1, .i1⟩
  | 52 => ⟨S_, .i1⟩
  | 53 => ⟨S320000, .i1⟩
  | 54 => ⟨S320000x16, .f32⟩
  | 55 => ⟨S320000x16, .i1⟩
  | 56 => ⟨S_, .f32⟩
  | 57 => ⟨S320000x16, .f32⟩
  | 58 => ⟨S320000x16, .f32⟩
  | 59 => ⟨S10000x32x16, .f32⟩
  | 60 => ⟨S10000x32x16, .f32⟩
  | 61 => ⟨S10000x32x16, .f32⟩
  | 62 => ⟨S320000x16, .f32⟩
  | 63 => ⟨S_, .f32⟩
  | 64 => ⟨S320000, .f32⟩
  | 65 => ⟨S_, .f32⟩
  | 66 => ⟨S320000, .f32⟩
  | 67 => ⟨S320000, .i1⟩
  | 68 => ⟨S_, .f32⟩
  | 69 => ⟨S320000, .f32⟩
  | 70 => ⟨S320000, .f32⟩
  | 71 => ⟨S320000, .f32⟩
  | 72 => ⟨S_, .f32⟩
  | 73 => ⟨S_, .f32⟩
  | 74 => ⟨S_, .f32⟩
  | 75 => ⟨S_, .f32⟩
  | 76 => ⟨S10000x32, .f32⟩
  | 77 => ⟨S_, .i32⟩
  | 78 => ⟨S10000x32, .i32⟩
  | 79 => ⟨S10000x32, .i1⟩
  | 80 => ⟨S10000x32, .f32⟩
  | 81 => ⟨S10000x32, .f32⟩
  | 82 => ⟨S_, .f32⟩
  | 83 => ⟨S10000, .f32⟩
  | 84 => ⟨S_, .f32⟩
  | 85 => ⟨S10000, .f32⟩
  | 86 => ⟨S10000, .f32⟩
  | 87 => ⟨S10000x1, .f32⟩
  | 88 => ⟨S10000x32, .f32⟩
  | 89 => ⟨S10000x32, .f32⟩
  | 90 => ⟨S10000x32, .f32⟩
  | 91 => ⟨S_, .f32⟩
  | 92 => ⟨S10000, .f32⟩
  | 93 => ⟨S10000x1, .f32⟩
  | 94 => ⟨S10000x32, .f32⟩
  | 95 => ⟨S10000x32, .f32⟩
  | 96 => ⟨S10000x32, .f32⟩
  | 97 => ⟨S10000x32, .i32⟩
  | 98 => ⟨S10000x32, .f32⟩
  | 99 => ⟨S10000x32, .i32⟩
  | 100 => ⟨S_, .i32⟩
  | 101 => ⟨S10000x32, .i32⟩
  | 102 => ⟨S10000x32, .i1⟩
  | 103 => ⟨S_, .i32⟩
  | 104 => ⟨S10000x32, .i32⟩
  | 105 => ⟨S10000x32, .i32⟩
  | 106 => ⟨S10000x32, .i32⟩
  | 107 => ⟨S10000x32x1, .i32⟩
  | 108 => ⟨S1, .i32⟩
  | 109 => ⟨S_, .i32⟩
  | 110 => ⟨S10000x32x1, .i32⟩
  | 111 => ⟨S10000x32x1, .i1⟩
  | 112 => ⟨S1x1x1, .i32⟩
  | 113 => ⟨S10000x32x1, .i32⟩
  | 114 => ⟨S10000x32x1, .i1⟩
  | 115 => ⟨S10000x32x1, .i1⟩
  | 116 => ⟨S_, .i1⟩
  | 117 => ⟨S10000x32, .i1⟩
  | 118 => ⟨S10000x32, .f32⟩
  | 119 => ⟨S_, .f32⟩
  | 120 => ⟨S10000x32, .f32⟩
  | 121 => ⟨S10000x32, .f32⟩
  | 122 => ⟨S_, .f32⟩
  | 123 => ⟨S10000, .f32⟩
  | 124 => ⟨S_, .f32⟩
  | 125 => ⟨S10000, .f32⟩
  | 126 => ⟨S10000, .f32⟩
  | 127 => ⟨S10000x1, .f32⟩
  | _ => ⟨S10000x128, .f32⟩

abbrev hbmTy0_1 (i : Nat) : BufTy := match i % 128 with
  | 0 => ⟨S10000x32, .f32⟩
  | 1 => ⟨S10000x32, .f32⟩
  | 2 => ⟨S10000x32, .f32⟩
  | 3 => ⟨S_, .f32⟩
  | 4 => ⟨S10000, .f32⟩
  | 5 => ⟨S10000x1, .f32⟩
  | 6 => ⟨S10000x32, .f32⟩
  | 7 => ⟨S10000x32, .f32⟩
  | 8 => ⟨S10000, .i32⟩
  | 9 => ⟨S_, .i32⟩
  | 10 => ⟨S10000, .i32⟩
  | 11 => ⟨S10000, .i32⟩
  | 12 => ⟨S_, .i32⟩
  | 13 => ⟨S10000, .i32⟩
  | 14 => ⟨S10000, .i32⟩
  | 15 => ⟨S10000x1, .i32⟩
  | 16 => ⟨S10000x32, .i32⟩
  | 17 => ⟨S10000x32, .i32⟩
  | 18 => ⟨S320000, .i32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S1, .i32⟩
  | 28 => ⟨S_, .i32⟩
  | 29 => ⟨S320000x1, .i32⟩
  | 30 => ⟨S320000x1, .i1⟩
  | 31 => ⟨S1x1, .i32⟩
  | 32 => ⟨S320000x1, .i32⟩
  | 33 => ⟨S320000x1, .i1⟩
  | 34 => ⟨S320000x1, .i1⟩
  | 35 => ⟨S_, .i1⟩
  | 36 => ⟨S320000, .i1⟩
  | 37 => ⟨S320000, .i32⟩
  | 38 => ⟨S_, .i32⟩
  | 39 => ⟨S320000, .i32⟩
  | 40 => ⟨S320000, .i32⟩
  | 41 => ⟨S10000x128, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S1, .i32⟩
  | 51 => ⟨S_, .i32⟩
  | 52 => ⟨S320000x1, .i32⟩
  | 53 => ⟨S320000x1, .i1⟩
  | 54 => ⟨S1x1, .i32⟩
  | 55 => ⟨S320000x1, .i32⟩
  | 56 => ⟨S320000x1, .i1⟩
  | 57 => ⟨S320000x1, .i1⟩
  | 58 => ⟨S_, .i1⟩
  | 59 => ⟨S320000, .i1⟩
  | 60 => ⟨S320000x128, .f32⟩
  | 61 => ⟨S320000x128, .i1⟩
  | 62 => ⟨S_, .f32⟩
  | 63 => ⟨S320000x128, .f32⟩
  | 64 => ⟨S320000x128, .f32⟩
  | 65 => ⟨S10000x32x128, .f32⟩
  | 66 => ⟨S10000x32x1, .f32⟩
  | 67 => ⟨S10000x32x128, .f32⟩
  | 68 => ⟨S10000x32x128, .f32⟩
  | 69 => ⟨S_, .f32⟩
  | 70 => ⟨S10000x128, .f32⟩
  | 71 => ⟨S10000x128, .f32⟩
  | 72 => ⟨S_, .f32⟩
  | 73 => ⟨S10000x128, .f32⟩
  | 74 => ⟨S10000x128, .f32⟩
  | 75 => ⟨S10000x32, .i32⟩
  | 76 => ⟨S320000, .i32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S1, .i32⟩
  | 86 => ⟨S_, .i32⟩
  | 87 => ⟨S320000x1, .i32⟩
  | 88 => ⟨S320000x1, .i1⟩
  | 89 => ⟨S1x1, .i32⟩
  | 90 => ⟨S320000x1, .i32⟩
  | 91 => ⟨S320000x1, .i1⟩
  | 92 => ⟨S320000x1, .i1⟩
  | 93 => ⟨S_, .i1⟩
  | 94 => ⟨S320000, .i1⟩
  | 95 => ⟨S320000x32, .i32⟩
  | 96 => ⟨S320000x32, .i1⟩
  | 97 => ⟨S_, .i32⟩
  | 98 => ⟨S320000x32, .i32⟩
  | 99 => ⟨S320000x32, .i32⟩
  | 100 => ⟨S10240000, .i32⟩
  | 101 => ⟨S_, .i32⟩
  | 102 => ⟨S10240000, .i32⟩
  | 103 => ⟨S10240000, .i1⟩
  | 104 => ⟨S_, .i32⟩
  | 105 => ⟨S10240000, .i32⟩
  | 106 => ⟨S10240000, .i32⟩
  | 107 => ⟨S10240000, .i32⟩
  | 108 => ⟨S10240000x1, .i32⟩
  | 109 => ⟨S1, .i32⟩
  | 110 => ⟨S_, .i32⟩
  | 111 => ⟨S10240000x1, .i32⟩
  | 112 => ⟨S10240000x1, .i1⟩
  | 113 => ⟨S1x1, .i32⟩
  | 114 => ⟨S10240000x1, .i32⟩
  | 115 => ⟨S10240000x1, .i1⟩
  | 116 => ⟨S10240000x1, .i1⟩
  | 117 => ⟨S_, .i1⟩
  | 118 => ⟨S10240000, .i1⟩
  | 119 => ⟨S10240000, .f32⟩
  | 120 => ⟨S_, .f32⟩
  | 121 => ⟨S10240000, .f32⟩
  | 122 => ⟨S10240000, .f32⟩
  | 123 => ⟨S10000x1, .f32⟩
  | 124 => ⟨S10000x1024, .f32⟩
  | 125 => ⟨S10240000, .f32⟩
  | 126 => ⟨S10240000, .f32⟩
  | 127 => ⟨S10000x1024, .f32⟩
  | _ => ⟨S10000x128, .f32⟩

abbrev hbmTy0_2 (i : Nat) : BufTy := match i % 128 with
  | 0 => ⟨S10000x1024, .i32⟩
  | 1 => ⟨S_, .f32⟩
  | 2 => ⟨S_, .f32⟩
  | 3 => ⟨S_, .f32⟩
  | 4 => ⟨S_, .f32⟩
  | 5 => ⟨S_, .i32⟩
  | 6 => ⟨S10000x1024, .i32⟩
  | 7 => ⟨S10000x1024, .i1⟩
  | 8 => ⟨S10000x1024, .f32⟩
  | 9 => ⟨S10000x1024, .f32⟩
  | 10 => ⟨S10000x1024, .f32⟩
  | 11 => ⟨S10000x1024, .i32⟩
  | 12 => ⟨S10000x1024, .f32⟩
  | 13 => ⟨S10000x1024, .i32⟩
  | 14 => ⟨S10000x32, .i32⟩
  | 15 => ⟨S10000, .i32⟩
  | 16 => ⟨S_, .i32⟩
  | 17 => ⟨S10000, .i32⟩
  | 18 => ⟨S10000, .i32⟩
  | 19 => ⟨S_, .i32⟩
  | 20 => ⟨S10000, .i32⟩
  | 21 => ⟨S10000, .i32⟩
  | 22 => ⟨S10000x1, .i32⟩
  | 23 => ⟨S10000x32, .i32⟩
  | 24 => ⟨S10000x32, .i32⟩
  | 25 => ⟨S320000, .i32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S1, .i32⟩
  | 35 => ⟨S_, .i32⟩
  | 36 => ⟨S320000x1, .i32⟩
  | 37 => ⟨S320000x1, .i1⟩
  | 38 => ⟨S1x1, .i32⟩
  | 39 => ⟨S320000x1, .i32⟩
  | 40 => ⟨S320000x1, .i1⟩
  | 41 => ⟨S320000x1, .i1⟩
  | 42 => ⟨S_, .i1⟩
  | 43 => ⟨S320000, .i1⟩
  | 44 => ⟨S320000, .i32⟩
  | 45 => ⟨S_, .i32⟩
  | 46 => ⟨S320000, .i32⟩
  | 47 => ⟨S320000, .i32⟩
  | 48 => ⟨S10000x32, .i32⟩
  | 49 => ⟨S1x10000x32, .i32⟩
  | 50 => ⟨S2x10000x32, .i32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst : Ref sig .tc := ⟨.hbm, 63, rfl⟩
abbrev main_v28 : Ref sig .tc := ⟨.hbm, 64, rfl⟩
abbrev main_cst_0 : Ref sig .tc := ⟨.hbm, 65, rfl⟩
abbrev main_v29 : Ref sig .tc := ⟨.hbm, 66, rfl⟩
abbrev main_v30 : Ref sig .tc := ⟨.hbm, 67, rfl⟩
abbrev main_cst_1 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_2 : Ref sig .tc := ⟨.hbm, 72, rfl⟩
abbrev main_v34 : Ref sig .tc := ⟨.hbm, 73, rfl⟩
abbrev main_cst_3 : Ref sig .tc := ⟨.hbm, 74, rfl⟩
abbrev main_v35 : Ref sig .tc := ⟨.hbm, 75, rfl⟩
abbrev main_v36 : Ref sig .tc := ⟨.hbm, 76, rfl⟩
abbrev main_c : Ref sig .tc := ⟨.hbm, 77, rfl⟩
abbrev main_v37 : Ref sig .tc := ⟨.hbm, 78, rfl⟩
abbrev main_v38 : Ref sig .tc := ⟨.hbm, 79, rfl⟩
abbrev main_call2_v0 : Ref sig .tc := ⟨.hbm, 80, rfl⟩
abbrev main_v39 : Ref sig .tc := ⟨.hbm, 81, rfl⟩
abbrev main_cst_4 : Ref sig .tc := ⟨.hbm, 82, rfl⟩
abbrev main_v40 : Ref sig .tc := ⟨.hbm, 83, rfl⟩
abbrev main_cst_5 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_6 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_call3_v0 : Ref sig .tc := ⟨.hbm, 97, rfl⟩
abbrev main_call3_v1_0 : Ref sig .tc := ⟨.hbm, 98, rfl⟩
abbrev main_v52 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_cst : Ref sig .tc := ⟨.hbm, 119, rfl⟩
abbrev main_call4_v14 : Ref sig .tc := ⟨.hbm, 120, rfl⟩
abbrev main_v53 : Ref sig .tc := ⟨.hbm, 121, rfl⟩
abbrev main_cst_7 : Ref sig .tc := ⟨.hbm, 122, rfl⟩
abbrev main_v54 : Ref sig .tc := ⟨.hbm, 123, rfl⟩
abbrev main_cst_8 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_9 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_c_10 : Ref sig .tc := ⟨.hbm, 137, rfl⟩
abbrev main_v66 : Ref sig .tc := ⟨.hbm, 138, rfl⟩
abbrev main_v67 : Ref sig .tc := ⟨.hbm, 139, rfl⟩
abbrev main_c_11 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_call5_c : Ref sig .tc := ⟨.hbm, 147, rfl⟩
abbrev main_call5_v0 : Ref sig .tc := ⟨.hbm, 148, rfl⟩
abbrev main_call5_v1 : Ref sig .tc := ⟨.hbm, 149, rfl⟩
abbrev main_call5_c_0 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_c_1 : Ref sig .tc := ⟨.hbm, 155, rfl⟩
abbrev main_call5_c_2 : Ref sig .tc := ⟨.hbm, 156, rfl⟩
abbrev main_call5_v6 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_c_3 : Ref sig .tc := ⟨.hbm, 163, rfl⟩
abbrev main_call5_v12 : Ref sig .tc := ⟨.hbm, 164, rfl⟩
abbrev main_call5_v13 : Ref sig .tc := ⟨.hbm, 165, rfl⟩
abbrev main_call5_c_4 : Ref sig .tc := ⟨.hbm, 166, rfl⟩
abbrev main_call5_v14 : Ref sig .tc := ⟨.hbm, 167, rfl⟩
abbrev main_v74 : Ref sig .tc := ⟨.hbm, 168, rfl⟩
abbrev main_v75 : Ref sig .tc := ⟨.hbm, 169, rfl⟩
abbrev main_call6_c : Ref sig .tc := ⟨.hbm, 170, rfl⟩
abbrev main_call6_v0 : Ref sig .tc := ⟨.hbm, 171, rfl⟩
abbrev main_call6_v1 : Ref sig .tc := ⟨.hbm, 172, rfl⟩
abbrev main_call6_c_0 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_call6_v5 : Ref sig .tc := ⟨.hbm, 177, rfl⟩
abbrev main_call6_c_1 : Ref sig .tc := ⟨.hbm, 178, rfl⟩
abbrev main_call6_c_2 : Ref sig .tc := ⟨.hbm, 179, rfl⟩
abbrev main_call6_v6 : Ref sig .tc := ⟨.hbm, 180, rfl⟩
abbrev main_call6_v7 : Ref sig .tc := ⟨.hbm, 181, rfl⟩
abbrev main_call6_v8 : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_call6_c_3 : Ref sig .tc := ⟨.hbm, 186, rfl⟩
abbrev main_call6_v12 : Ref sig .tc := ⟨.hbm, 187, rfl⟩
abbrev main_call6_v13 : Ref sig .tc := ⟨.hbm, 188, rfl⟩
abbrev main_call6_v14 : Ref sig .tc := ⟨.hbm, 189, rfl⟩
abbrev main_call6_cst : Ref sig .tc := ⟨.hbm, 190, rfl⟩
abbrev main_call6_v15 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_cst_12 : Ref sig .tc := ⟨.hbm, 197, rfl⟩
abbrev main_v81 : Ref sig .tc := ⟨.hbm, 198, rfl⟩
abbrev main_v82 : Ref sig .tc := ⟨.hbm, 199, rfl⟩
abbrev main_call7_cst : Ref sig .tc := ⟨.hbm, 200, rfl⟩
abbrev main_call7_v0 : Ref sig .tc := ⟨.hbm, 201, rfl⟩
abbrev main_v83 : Ref sig .tc := ⟨.hbm, 202, rfl⟩
abbrev main_v84 : Ref sig .tc := ⟨.hbm, 203, rfl⟩
abbrev main_v85 : Ref sig .tc := ⟨.hbm, 204, rfl⟩
abbrev main_call8_c : Ref sig .tc := ⟨.hbm, 205, rfl⟩
abbrev main_call8_v0 : Ref sig .tc := ⟨.hbm, 206, rfl⟩
abbrev main_call8_v1 : Ref sig .tc := ⟨.hbm, 207, rfl⟩
abbrev main_call8_c_0 : Ref sig .tc := ⟨.hbm, 208, rfl⟩
abbrev main_call8_v2 : Ref sig .tc := ⟨.hbm, 209, rfl⟩
abbrev main_call8_v3 : Ref sig .tc := ⟨.hbm, 210, rfl⟩
abbrev main_call8_v4 : Ref sig .tc := ⟨.hbm, 211, rfl⟩
abbrev main_call8_v5 : Ref sig .tc := ⟨.hbm, 212, rfl⟩
abbrev main_call8_c_1 : Ref sig .tc := ⟨.hbm, 213, rfl⟩
abbrev main_call8_c_2 : Ref sig .tc := ⟨.hbm, 214, rfl⟩
abbrev main_call8_v6 : Ref sig .tc := ⟨.hbm, 215, rfl⟩
abbrev main_call8_v7 : Ref sig .tc := ⟨.hbm, 216, rfl⟩
abbrev main_call8_v8 : Ref sig .tc := ⟨.hbm, 217, rfl⟩
abbrev main_call8_v9 : Ref sig .tc := ⟨.hbm, 218, rfl⟩
abbrev main_call8_v10 : Ref sig .tc := ⟨.hbm, 219, rfl⟩
abbrev main_call8_v11 : Ref sig .tc := ⟨.hbm, 220, rfl⟩
abbrev main_call8_c_3 : Ref sig .tc := ⟨.hbm, 221, rfl⟩
abbrev main_call8_v12 : Ref sig .tc := ⟨.hbm, 222, rfl⟩
abbrev main_call8_v13 : Ref sig .tc := ⟨.hbm, 223, rfl⟩
abbrev main_call8_v14 : Ref sig .tc := ⟨.hbm, 224, rfl⟩
abbrev main_call8_c_4 : Ref sig .tc := ⟨.hbm, 225, rfl⟩
abbrev main_call8_v15 : Ref sig .tc := ⟨.hbm, 226, rfl⟩
abbrev main_v86 : Ref sig .tc := ⟨.hbm, 227, rfl⟩
abbrev main_v87 : Ref sig .tc := ⟨.hbm, 228, rfl⟩
abbrev main_call9_c : Ref sig .tc := ⟨.hbm, 229, rfl⟩
abbrev main_call9_v0 : Ref sig .tc := ⟨.hbm, 230, rfl⟩
abbrev main_call9_v1 : Ref sig .tc := ⟨.hbm, 231, rfl⟩
abbrev main_call9_c_0 : Ref sig .tc := ⟨.hbm, 232, rfl⟩
abbrev main_call9_v2 : Ref sig .tc := ⟨.hbm, 233, rfl⟩
abbrev main_call9_v3 : Ref sig .tc := ⟨.hbm, 234, rfl⟩
abbrev main_call9_v4 : Ref sig .tc := ⟨.hbm, 235, rfl⟩
abbrev main_call9_v5 : Ref sig .tc := ⟨.hbm, 236, rfl⟩
abbrev main_call9_c_1 : Ref sig .tc := ⟨.hbm, 237, rfl⟩
abbrev main_call9_c_2 : Ref sig .tc := ⟨.hbm, 238, rfl⟩
abbrev main_call9_v6 : Ref sig .tc := ⟨.hbm, 239, rfl⟩
abbrev main_call9_v7 : Ref sig .tc := ⟨.hbm, 240, rfl⟩
abbrev main_call9_v8 : Ref sig .tc := ⟨.hbm, 241, rfl⟩
abbrev main_call9_v9 : Ref sig .tc := ⟨.hbm, 242, rfl⟩
abbrev main_call9_v10 : Ref sig .tc := ⟨.hbm, 243, rfl⟩
abbrev main_call9_v11 : Ref sig .tc := ⟨.hbm, 244, rfl⟩
abbrev main_call9_c_3 : Ref sig .tc := ⟨.hbm, 245, rfl⟩
abbrev main_call9_v12 : Ref sig .tc := ⟨.hbm, 246, rfl⟩
abbrev main_call9_v13 : Ref sig .tc := ⟨.hbm, 247, rfl⟩
abbrev main_call9_cst : Ref sig .tc := ⟨.hbm, 248, rfl⟩
abbrev main_call9_v14 : Ref sig .tc := ⟨.hbm, 249, rfl⟩
abbrev main_v88 : Ref sig .tc := ⟨.hbm, 250, rfl⟩
abbrev main_v89 : Ref sig .tc := ⟨.hbm, 251, rfl⟩
abbrev main_v90 : Ref sig .tc := ⟨.hbm, 252, rfl⟩
abbrev main_v91 : Ref sig .tc := ⟨.hbm, 253, rfl⟩
abbrev main_v92 : Ref sig .tc := ⟨.hbm, 254, rfl⟩
abbrev main_v93 : Ref sig .tc := ⟨.hbm, 255, rfl⟩
abbrev main_v94 : Ref sig .tc := ⟨.hbm, 256, rfl⟩
abbrev main_cst_13 : Ref sig .tc := ⟨.hbm, 257, rfl⟩
abbrev main_v95 : Ref sig .tc := ⟨.hbm, 258, rfl⟩
abbrev main_cst_14 : Ref sig .tc := ⟨.hbm, 259, rfl⟩
abbrev main_v96 : Ref sig .tc := ⟨.hbm, 260, rfl⟩
abbrev main_c_15 : Ref sig .tc := ⟨.hbm, 261, rfl⟩
abbrev main_v97 : Ref sig .tc := ⟨.hbm, 262, rfl⟩
abbrev main_v98 : Ref sig .tc := ⟨.hbm, 263, rfl⟩
abbrev main_call10_v0 : Ref sig .tc := ⟨.hbm, 264, rfl⟩
abbrev main_v99 : Ref sig .tc := ⟨.hbm, 265, rfl⟩
abbrev main_v100 : Ref sig .tc := ⟨.hbm, 266, rfl⟩
abbrev main_call11_v0 : Ref sig .tc := ⟨.hbm, 267, rfl⟩
abbrev main_call11_v1_0 : Ref sig .tc := ⟨.hbm, 268, rfl⟩
abbrev main_v101 : Ref sig .tc := ⟨.hbm, 269, rfl⟩
abbrev main_v102 : Ref sig .tc := ⟨.hbm, 270, rfl⟩
abbrev main_v103 : Ref sig .tc := ⟨.hbm, 271, rfl⟩
abbrev main_c_16 : Ref sig .tc := ⟨.hbm, 272, rfl⟩
abbrev main_v104 : Ref sig .tc := ⟨.hbm, 273, rfl⟩
abbrev main_v105 : Ref sig .tc := ⟨.hbm, 274, rfl⟩
abbrev main_c_17 : Ref sig .tc := ⟨.hbm, 275, rfl⟩
abbrev main_v106 : Ref sig .tc := ⟨.hbm, 276, rfl⟩
abbrev main_v107 : Ref sig .tc := ⟨.hbm, 277, rfl⟩
abbrev main_v108 : Ref sig .tc := ⟨.hbm, 278, rfl⟩
abbrev main_v109 : Ref sig .tc := ⟨.hbm, 279, rfl⟩
abbrev main_v110 : Ref sig .tc := ⟨.hbm, 280, rfl⟩
abbrev main_v111 : Ref sig .tc := ⟨.hbm, 281, rfl⟩
abbrev main_call12_c : Ref sig .tc := ⟨.hbm, 282, rfl⟩
abbrev main_call12_v0 : Ref sig .tc := ⟨.hbm, 283, rfl⟩
abbrev main_call12_v1 : Ref sig .tc := ⟨.hbm, 284, rfl⟩
abbrev main_call12_c_0 : Ref sig .tc := ⟨.hbm, 285, rfl⟩
abbrev main_call12_v2 : Ref sig .tc := ⟨.hbm, 286, rfl⟩
abbrev main_call12_v3 : Ref sig .tc := ⟨.hbm, 287, rfl⟩
abbrev main_call12_v4 : Ref sig .tc := ⟨.hbm, 288, rfl⟩
abbrev main_call12_v5 : Ref sig .tc := ⟨.hbm, 289, rfl⟩
abbrev main_call12_c_1 : Ref sig .tc := ⟨.hbm, 290, rfl⟩
abbrev main_call12_c_2 : Ref sig .tc := ⟨.hbm, 291, rfl⟩
abbrev main_call12_v6 : Ref sig .tc := ⟨.hbm, 292, rfl⟩
abbrev main_call12_v7 : Ref sig .tc := ⟨.hbm, 293, rfl⟩
abbrev main_call12_v8 : Ref sig .tc := ⟨.hbm, 294, rfl⟩
abbrev main_call12_v9 : Ref sig .tc := ⟨.hbm, 295, rfl⟩
abbrev main_call12_v10 : Ref sig .tc := ⟨.hbm, 296, rfl⟩
abbrev main_call12_v11 : Ref sig .tc := ⟨.hbm, 297, rfl⟩
abbrev main_call12_c_3 : Ref sig .tc := ⟨.hbm, 298, rfl⟩
abbrev main_call12_v12 : Ref sig .tc := ⟨.hbm, 299, rfl⟩
abbrev main_call12_v13 : Ref sig .tc := ⟨.hbm, 300, rfl⟩
abbrev main_call12_c_4 : Ref sig .tc := ⟨.hbm, 301, rfl⟩
abbrev main_call12_v14 : Ref sig .tc := ⟨.hbm, 302, rfl⟩
abbrev main_v112 : Ref sig .tc := ⟨.hbm, 303, rfl⟩
abbrev main_v113 : Ref sig .tc := ⟨.hbm, 304, rfl⟩
abbrev main_v114 : Ref sig .tc := ⟨.hbm, 305, rfl⟩
abbrev main_v115 : Ref sig .tc := ⟨.hbm, 306, rfl⟩

abbrev nD : Nat := 1
abbrev τ : Topo := Topo.v7x

variable {F : FTy → Type} [FloatOps F]
-- ==== Proof.KernelTail.lean ====
module

public import proofs.«01_k».proof.Proof.Gen.KernelIdeal.Frame

/-!
# What the kernel's host operations compute

After its pallas call the kernel runs a list of host operations.  This module names the value each stage of that list
computes as a function of the arrays it reads, and proves that running the list leaves those values in the two result
buffers.
-/

@[expose] public section

set_option maxRecDepth 8192

noncomputable section

namespace Cert.KernelIdeal.Tail

open Idealize.ShloMosaic Idealize.ShloMosaic.TcCoe Idealize.ShloMosaic.Tactic
open Idealize.ShloMosaic.StableHlo
open Cert.KernelIdeal Cert.KernelIdeal.Gen

variable {F : FTy → Type} [FloatOps F]

/-! ## The stages as functions -/

/-- The flat list of receptive field entries with a negative entry counted from the end of the table, as a column. -/
def wrapFlat (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 10000#32))) i)

/-- Which entries of an index column lie in the table `0, …, 9999`. -/
def inTable (j : IVec S320000x1 32) : IVec S320000 1 :=
  Host.reduce IntOp.andi
    (andi (cmpi .sge j (broadcastInDim S320000x1 ![] bcast_S_S320000x1 (constantI S_ 32 0#32)))
      (cmpi .sle j (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The rows of a table of 16-wide rows named by a flat index list. -/
def takeQuery (q : FVec F S10000x16 .f32) (i : IVec S320000 32) : FVec F S320000x16 .f32 :=
  select (broadcastInDim S320000x16 ![0] bcast_S320000_S320000x16_0 (inTable (wrapFlat i)))
    (Host.gather gather_S10000x16_S320000x1_S320000x16_1_0_n_n_0_1_116 q (wrapFlat i))
    (broadcastInDim S320000x16 ![] bcast_S_S320000x16 (constant S_ .f32 0x7FC00000#32))

/-- The rows of a table of 128-wide rows named by a flat index list. -/
def takeHidden (h : FVec F S10000x128 .f32) (i : IVec S320000 32) : FVec F S320000x128 .f32 :=
  select (broadcastInDim S320000x128 ![0] bcast_S320000_S320000x128_0 (inTable (wrapFlat i)))
    (Host.gather gather_S10000x128_S320000x1_S320000x128_1_0_n_n_0_1_1128 h (wrapFlat i))
    (broadcastInDim S320000x128 ![] bcast_S_S320000x128 (constant S_ .f32 0x7FC00000#32))

/-- The rows of the adjacency table named by a flat index list. -/
def takeAdj (a : IVec S10000x32 32) (i : IVec S320000 32) : IVec S320000x32 32 :=
  select (broadcastInDim S320000x32 ![0] bcast_S320000_S320000x32_0 (inTable (wrapFlat i)))
    (Host.gather gather_S10000x32_S320000x1_S320000x32_1_0_n_n_0_1_132 a (wrapFlat i))
    (broadcastInDim S320000x32 ![] bcast_S_S320000x32 (constantI S_ 32 2147483648#32))

/-- The dot product of each node's key with the queries of its receptive field. -/
def attention (key : FVec F S10000x16 .f32) (qg : FVec F S320000x16 .f32) : FVec F S10000x32 .f32 :=
  Host.dotGeneral dot_S10000x16_S10000x32x16_S10000x32_1_2_n_1_0_0 none key
    (shapeCast S10000x32x16 qg shapeCasts_S320000x16_S10000x32x16)

/-- An entry below zero is multiplied by one fifth. -/
def leaky (a : FVec F S10000x32 .f32) : FVec F S10000x32 .f32 :=
  select (cmpf .oge a (broadcastInDim S10000x32 ![] bcast_S_S10000x32 (constant S_ .f32 0x00000000#32))) a
    (mulf (broadcastInDim S10000x32 ![] bcast_S_S10000x32 (constant S_ .f32 0x3E4CCCCD#32)) a)

/-- Entries whose receptive field node is the last node are replaced by a large negative number. -/
def maskLast (rf : IVec S10000x32 32) (a : FVec F S10000x32 .f32) : FVec F S10000x32 .f32 :=
  select (cmpi .ne rf (broadcastInDim S10000x32 ![] bcast_S_S10000x32 (constantI S_ 32 9999#32))) a
    (broadcastInDim S10000x32 ![] bcast_S_S10000x32 (constant S_ .f32 0xF149F2CA#32))

/-- Each row's exponentials after its largest entry is subtracted. -/
def expRows (a : FVec F S10000x32 .f32) : FVec F S10000x32 .f32 :=
  Host.exp (subf a (broadcastInDim S10000x32 ![0, 1] bcast_S10000x1_S10000x32_0_1
    (broadcastInDim S10000x1 ![0] bcast_S10000_S10000x1_0
      (maximumf (broadcastInDim S10000 ![] bcast_S_S10000 (constant S_ .f32 0xFF800000#32))
        (Host.reduce FloatOps.maximumf a (constant S_ .f32 0xFF800000#32) reducesTo_S10000x32_S10000_d1 h_S_)))))

/-- Each row divided by its sum. -/
def normRows (e : FVec F S10000x32 .f32) : FVec F S10000x32 .f32 :=
  Host.divf e (broadcastInDim S10000x32 ![0, 1] bcast_S10000x1_S10000x32_0_1
    (broadcastInDim S10000x1 ![0] bcast_S10000_S10000x1_0
      (Host.reduceAdd e (constant S_ .f32 0x00000000#32) reducesTo_S10000x32_S10000_d1 h_S_)))

/-- The weights applied to the receptive field: two softmaxes of the masked attention. -/
def weights (rf : IVec S10000x32 32) (key query : FVec F S10000x16 .f32) : FVec F S10000x32 .f32 :=
  normRows (expRows (normRows (expRows (maskLast rf (leaky (attention key
    (takeQuery query (shapeCast S320000 rf shapeCasts_S10000x32_S320000))))))))

/-- The first result: the weighted sum of the receptive field's hidden rows plus the node's own, negative entries
    replaced by zero. -/
def result1 (rf : IVec S10000x32 32) (hid : FVec F S10000x128 .f32) (key query : FVec F S10000x16 .f32) :
    FVec F S10000x128 .f32 :=
  maximumf (addf (Host.dotGeneral dot_S10000x32_S10000x32x128_S10000x128_1_1_n_2_0_0 none (weights rf key query)
      (shapeCast S10000x32x128 (takeHidden hid (shapeCast S320000 rf shapeCasts_S10000x32_S320000))
        shapeCasts_S320000x128_S10000x32x128)) hid)
    (broadcastInDim S10000x128 ![] bcast_S_S10000x128 (constant S_ .f32 0x00000000#32))

/-- The neighbours of the receptive field: 1024 node numbers for each node. -/
def neighbours (rf adj : IVec S10000x32 32) : IVec S10000x1024 32 :=
  shapeCast S10000x1024 (takeAdj adj (shapeCast S320000 rf shapeCasts_S10000x32_S320000))
    shapeCasts_S320000x32_S10000x1024

/-- The flat list of neighbours with a negative entry counted from the end of the table, as a column. -/
def wrapLong (i : IVec S10240000 32) : IVec S10240000x1 32 :=
  broadcastInDim S10240000x1 ![0] bcast_S10240000_S10240000x1_0
    (select (cmpi .slt i (broadcastInDim S10240000 ![] bcast_S_S10240000 (constantI S_ 32 0#32)))
      (addi i (broadcastInDim S10240000 ![] bcast_S_S10240000 (constantI S_ 32 10000#32))) i)

/-- Which entries of the long index column lie in the table `0, …, 9999`. -/
def inTableLong (j : IVec S10240000x1 32) : IVec S10240000 1 :=
  Host.reduce IntOp.andi
    (andi (cmpi .sge j (broadcastInDim S10240000x1 ![] bcast_S_S10240000x1 (constantI S_ 32 0#32)))
      (cmpi .sle j (broadcastInDim S10240000x1 ![0, 1] bcast_S1x1_S10240000x1_0_1
        (broadcastInDim S1x1 ![1] bcast_S1_S1x1_1 (constantI S1 32 9999#32)))))
    (constantI S_ 1 1#1) reducesTo_S10240000x1_S10240000_d1 h_S_

/-- The score of every neighbour. -/
def takeScore (la : FVec F S10000 .f32) (i : IVec S10240000 32) : FVec F S10240000 .f32 :=
  select (inTableLong (wrapLong i))
    (Host.gather gather_S10000_S10240000x1_S10240000_n_0_n_n_0_1_1 la (wrapLong i))
    (broadcastInDim S10240000 ![] bcast_S_S10240000 (constant S_ .f32 0x7FC00000#32))

/-- The scores of each node's neighbours, the last node's replaced by a large negative number. -/
def scores (la : FVec F S10000 .f32) (nb : IVec S10000x1024 32) : FVec F S10000x1024 .f32 :=
  select (cmpi .ne nb (broadcastInDim S10000x1024 ![] bcast_S_S10000x1024 (constantI S_ 32 9999#32)))
    (shapeCast S10000x1024 (takeScore la (shapeCast S10240000 nb shapeCasts_S10000x1024_S10240000))
      shapeCasts_S10240000_S10000x1024)
    (broadcastInDim S10000x1024 ![] bcast_S_S10000x1024 (constant S_ .f32 0xF149F2CA#32))

/-- Where each row's 32 largest scores stand. -/
def best (s : FVec F S10000x1024 .f32) : IVec S10000x32 32 :=
  (Host.topK S10000x32 1 (FloatOps.cmpfTotal .gt) s sliceFits_S10000x1024_S10000x32).2

/-- Positions with a negative one counted from the end of the row, with a trailing axis of length one. -/
def wrapBest (o : IVec S10000x32 32) : IVec S10000x32x1 32 :=
  shapeCast S10000x32x1
    (select (cmpi .slt o (broadcastInDim S10000x32 ![] bcast_S_S10000x32 (constantI S_ 32 0#32)))
      (addi o (broadcastInDim S10000x32 ![] bcast_S_S10000x32 (constantI S_ 32 1024#32))) o)
    shapeCasts_S10000x32_S10000x32x1

/-- Which positions lie in `0, …, 1023`. -/
def inRow (j : IVec S10000x32x1 32) : IVec S10000x32 1 :=
  Host.reduce IntOp.andi
    (andi (cmpi .sge j (broadcastInDim S10000x32x1 ![] bcast_S_S10000x32x1 (constantI S_ 32 0#32)))
      (cmpi .sle j (broadcastInDim S10000x32x1 ![0, 1, 2] bcast_S1x1x1_S10000x32x1_0_1_2
        (broadcastInDim S1x1x1 ![2] bcast_S1_S1x1x1_2 (constantI S1 32 1023#32)))))
    (constantI S_ 1 1#1) reducesTo_S10000x32x1_S10000x32_d2 h_S_

/-- The neighbours standing at given positions of each row. -/
def pick (nb : IVec S10000x1024 32) (o : IVec S10000x32 32) : IVec S10000x32 32 :=
  select (inRow (wrapBest o))
    (Host.gather gather_S10000x1024_S10000x32x1_S10000x32_n_1_0_0_1_2_11 nb (wrapBest o))
    (broadcastInDim S10000x32 ![] bcast_S_S10000x32 (constantI S_ 32 2147483648#32))

/-- Two layers put one after the other. -/
def joinLayers (a : IVec S1x10000x32 32) (b : IVec S10000x32 32) : IVec S2x10000x32 32 :=
  concatenate S2x10000x32 0 [⟨S1x10000x32, a⟩, ⟨S1x10000x32,
    broadcastInDim S1x10000x32 ![1, 2] bcast_S10000x32_S1x10000x32_1_2 b⟩]
    concatenates_S1x10000x32_S1x10000x32_S2x10000x32_d0

/-- The second result: the receptive field as given, followed by the 32 best neighbours of each node. -/
def result2 (rf0 : IVec S1x10000x32 32) (rf adj : IVec S10000x32 32) (la : FVec F S10000x1 .f32) :
    IVec S2x10000x32 32 :=
  joinLayers rf0 (pick (neighbours rf adj)
    (best (scores (shapeCast S10000 la shapeCasts_S10000x1_S10000) (neighbours rf adj))))

/-! ## Each list of host operations leaves its stage's value -/

/-- `hostOps1` leaves the left scores as a vector. -/
theorem hostOps1_v6 (W : Valuation τ sig (Elt F)) :
    (after hostOps1 W (no_index (Proc.devRef .tc main_v6)) : (main_v6 : Ref sig .tc).ty.Contents (Elt F)) =
      shapeCast S10000 (W (Proc.devRef .tc main_v5_3)) shapeCasts_S10000x1_S10000 := by
  simp only [hostOps1, TRef.binary, TRef.nullary, TRef.ternary, TRef.unary, TRef.toBuf, TRef.ofBuf, cast_eq]
  after_results_simp
  try rfl

/-- `hostOps1` leaves the receptive field as a flat list. -/
theorem hostOps1_v7 (W : Valuation τ sig (Elt F)) :
    (after hostOps1 W (no_index (Proc.devRef .tc main_v7)) : (main_v7 : Ref sig .tc).ty.Contents (Elt F)) =
      shapeCast S320000 (W (Proc.devRef .tc main_v0)) shapeCasts_S10000x32_S320000 := by
  simp only [hostOps1, TRef.binary, TRef.nullary, TRef.ternary, TRef.unary, TRef.toBuf, TRef.ofBuf, cast_eq]
  after_results_simp
  try rfl

/-- `hostOps1_1` takes the query rows. -/
theorem hostOps1_1_v8 (W : Valuation τ sig (Elt F)) :
    (after hostOps1_1 W (no_index (Proc.devRef .tc main_v8)) : (main_v8 : Ref sig .tc).ty.Contents (Elt F)) =
      takeQuery (W (Proc.devRef .tc main_v5_2)) (W (Proc.devRef .tc main_v7)) := by
  simp only [hostOps1_1, TRef.binary, TRef.nullary, TRef.ternary, TRef.unary, TRef.toBuf, TRef.ofBuf, cast_eq]
  after_results_simp
  try rfl

/-- `hostOps1_2` computes the attention. -/
theorem hostOps1_2_v10 (W : Valuation τ sig (Elt F)) :
    (after hostOps1_2 W (no_index (Proc.devRef .tc main_v10)) : (main_v10 : Ref sig .tc).ty.Contents (Elt F)) =
      attention (W (Proc.devRef .tc main_v5_1)) (W (Proc.devRef .tc main_v8)) := by
  simp only [hostOps1_2, TRef.binary, TRef.nullary, TRef.ternary, TRef.unary, TRef.toBuf, TRef.ofBuf, cast_eq]
  after_results_simp
  try rfl

/-- `hostOps1_2` compares the attention with zero. -/
theorem hostOps1_2_v12 (W : Valuation τ sig (Elt F)) :
    (after hostOps1_2 W (no_index (Proc.devRef .tc main_v12)) : (main_v12 : Ref sig .tc).ty.Contents (Elt F)) =
      cmpf .oge (attention (W (Proc.devRef .tc main_v5_1)) (W (Proc.devRef .tc main_v8))) (broadcastInDim S10000x32 ![] bcast_S_S10000x32 (constant S_ .f32 0x00000000#32)) := by
  simp only [hostOps1_2, TRef.binary, TRef.nullary, TRef.ternary, TRef.unary, TRef.toBuf, TRef.ofBuf, cast_eq]
  after_results_simp
  try rfl

/-- `hostOps1_2` scales the attention. -/
theorem hostOps1_2_v14 (W : Valuation τ sig (Elt F)) :
    (after hostOps1_2 W (no_index (Proc.devRef .tc main_v14)) : (main_v14 : Ref sig .tc).ty.Contents (Elt F)) =
      mulf (broadcastInDim S10000x32 ![] bcast_S_S10000x32 (constant S_ .f32 0x3E4CCCCD#32)) (attention (W (Proc.devRef .tc main_v5_1)) (W (Proc.devRef .tc main_v8))) := by
  simp only [hostOps1_2, TRef.binary, TRef.nullary, TRef.ternary, TRef.unary, TRef.toBuf, TRef.ofBuf, cast_eq]
  after_results_simp
  try rfl

/-- `hostOps1_3` chooses between the attention and its scaled form. -/
theorem hostOps1_3_v15 (W : Valuation τ sig (Elt F)) :
    (after hostOps1_3 W (no_index (Proc.devRef .tc main_v15)) : (main_v15 : Ref sig .tc).ty.Contents (Elt F)) =
      select (W (Proc.devRef .tc main_v12)) (W (Proc.devRef .tc main_v10)) (W (Proc.devRef .tc main_v14)) := by
  simp only [hostOps1_3, TRef.binary, TRef.nullary, TRef.ternary, TRef.unary, TRef.toBuf, TRef.ofBuf, cast_eq]
  after_results_simp
  try rfl

/-- `hostOps1_4` compares the receptive field with the last node. -/
theorem hostOps1_4_v17 (W : Valuation τ sig (Elt F)) :
    (after hostOps1_4 W (no_index (Proc.devRef .tc main_v17)) : (main_v17 : Ref sig .tc).ty.Contents (Elt F)) =
      cmpi .ne (W (Proc.devRef .tc main_v0)) (broadcastInDim S10000x32 ![] bcast_S_S10000x32 (constantI S_ 32 9999#32)) := by
  simp only [hostOps1_4, TRef.binary, TRef.nullary, TRef.ternary, TRef.unary, TRef.toBuf, TRef.ofBuf, cast_eq]
  after_results_simp
  try rfl

/-- `hostOps1_4` leaves the masking constant. -/
theorem hostOps1_4_cst_1 (W : Valuation τ sig (Elt F)) :
    (after hostOps1_4 W (no_index (Proc.devRef .tc main_cst_1)) : (main_cst_1 : Ref sig .tc).ty.Contents (Elt F)) =
      constant S_ .f32 0xF149F2CA#32 := by
  simp only [hostOps1_4, TRef.binary, TRef.nullary, TRef.ternary, TRef.unary, TRef.toBuf, TRef.ofBuf, cast_eq]
  after_results_simp
  try rfl

/-- `hostOps1_5` applies the mask. -/
theorem hostOps1_5_v18 (W : Valuation τ sig (Elt F)) :
    (after hostOps1_5 W (no_index (Proc.devRef .tc main_v18)) : (main_v18 : Ref sig .tc).ty.Contents (Elt F)) =
      select (W (Proc.devRef .tc main_v17)) (W (Proc.devRef .tc main_v15)) (broadcastInDim S10000x32 ![] bcast_S_S10000x32 (W (Proc.devRef .tc main_cst_1))) := by
  simp only [hostOps1_5, TRef.binary, TRef.nullary, TRef.ternary, TRef.unary, TRef.toBuf, TRef.ofBuf, cast_eq]
  after_results_simp
  try rfl

/-- `hostOps1_6` applies two softmaxes. -/
theorem hostOps1_6_v40 (W : Valuation τ sig (Elt F)) :
    (after hostOps1_6 W (no_index (Proc.devRef .tc main_v40)) : (main_v40 : Ref sig .tc).ty.Contents (Elt F)) =
      normRows (expRows (normRows (expRows (W (Proc.devRef .tc main_v18))))) := by
  simp only [hostOps1_6, TRef.binary, TRef.nullary, TRef.ternary, TRef.unary, TRef.toBuf, TRef.ofBuf, cast_eq]
  after_results_simp
  try rfl

/-- `hostOps1_6` leaves the receptive field as a flat list. -/
theorem hostOps1_6_v41 (W : Valuation τ sig (Elt F)) :
    (after hostOps1_6 W (no_index (Proc.devRef .tc main_v41)) : (main_v41 : Ref sig .tc).ty.Contents (Elt F)) =
      shapeCast S320000 (W (Proc.devRef .tc main_v0)) shapeCasts_S10000x32_S320000 := by
  simp only [hostOps1_6, TRef.binary, TRef.nullary, TRef.ternary, TRef.unary, TRef.toBuf, TRef.ofBuf, cast_eq]
  after_results_simp
  try rfl

/-- `hostOps1_7` takes the hidden rows. -/
theorem hostOps1_7_v42 (W : Valuation τ sig (Elt F)) :
    (after hostOps1_7 W (no_index (Proc.devRef .tc main_v42)) : (main_v42 : Ref sig .tc).ty.Contents (Elt F)) =
      takeHidden (W (Proc.devRef .tc main_v5_0)) (W (Proc.devRef .tc main_v41)) := by
  simp only [hostOps1_7, TRef.binary, TRef.nullary, TRef.ternary, TRef.unary, TRef.toBuf, TRef.ofBuf, cast_eq]
  after_results_simp
  try rfl

/-- `hostOps1_8` sums the weighted rows. -/
theorem hostOps1_8_v45 (W : Valuation τ sig (Elt F)) :
    (after hostOps1_8 W (no_index (Proc.devRef .tc main_v45)) : (main_v45 : Ref sig .tc).ty.Contents (Elt F)) =
      addf (Host.dotGeneral dot_S10000x32_S10000x32x128_S10000x128_1_1_n_2_0_0 none (W (Proc.devRef .tc main_v40)) (shapeCast S10000x32x128 (W (Proc.devRef .tc main_v42)) shapeCasts_S320000x128_S10000x32x128)) (W (Proc.devRef .tc main_v5_0)) := by
  simp only [hostOps1_8, TRef.binary, TRef.nullary, TRef.ternary, TRef.unary, TRef.toBuf, TRef.ofBuf, cast_eq]
  after_results_simp
  try rfl

/-- `hostOps1_9` replaces negative entries by zero. -/
theorem hostOps1_9_v46 (W : Valuation τ sig (Elt F)) :
    (after hostOps1_9 W (no_index (Proc.devRef .tc main_v46)) : (main_v46 : Ref sig .tc).ty.Contents (Elt F)) =
      maximumf (W (Proc.devRef .tc main_v45)) (broadcastInDim S10000x128 ![] bcast_S_S10000x128 (constant S_ .f32 0x00000000#32)) := by
  simp only [hostOps1_9, TRef.binary, TRef.nullary, TRef.ternary, TRef.unary, TRef.toBuf, TRef.ofBuf, cast_eq]
  after_results_simp
  try rfl

/-- `hostOps1_10` leaves the receptive field as a flat list. -/
theorem hostOps1_10_v47 (W : Valuation τ sig (Elt F)) :
    (after hostOps1_10 W (no_index (Proc.devRef .tc main_v47)) : (main_v47 : Ref sig .tc).ty.Contents (Elt F)) =
      shapeCast S320000 (W (Proc.devRef .tc main_v0)) shapeCasts_S10000x32_S320000 := by
  simp only [hostOps1_10, TRef.binary, TRef.nullary, TRef.ternary, TRef.unary, TRef.toBuf, TRef.ofBuf, cast_eq]
  after_results_simp
  try rfl

/-- `hostOps1_11` takes the adjacency rows. -/
theorem hostOps1_11_v48 (W : Valuation τ sig (Elt F)) :
    (after hostOps1_11 W (no_index (Proc.devRef .tc main_v48)) : (main_v48 : Ref sig .tc).ty.Contents (Elt F)) =
      takeAdj (W (Proc.devRef .tc main_arg2)) (W (Proc.devRef .tc main_v47)) := by
  simp only [hostOps1_11, TRef.binary, TRef.nullary, TRef.ternary, TRef.unary, TRef.toBuf, TRef.ofBuf, cast_eq]
  after_results_simp
  try rfl

/-- `hostOps1_12` arranges the neighbours by node. -/
theorem hostOps1_12_v49 (W : Valuation τ sig (Elt F)) :
    (after hostOps1_12 W (no_index (Proc.devRef .tc main_v49)) : (main_v49 : Ref sig .tc).ty.Contents (Elt F)) =
      shapeCast S10000x1024 (W (Proc.devRef .tc main_v48)) shapeCasts_S320000x32_S10000x1024 := by
  simp only [hostOps1_12, TRef.binary, TRef.nullary, TRef.ternary, TRef.unary, TRef.toBuf, TRef.ofBuf, cast_eq]
  after_results_simp
  try rfl

/-- `hostOps1_12` leaves the neighbours as a flat list. -/
theorem hostOps1_12_v50 (W : Valuation τ sig (Elt F)) :
    (after hostOps1_12 W (no_index (Proc.devRef .tc main_v50)) : (main_v50 : Ref sig .tc).ty.Contents (Elt F)) =
      shapeCast S10240000 (shapeCast S10000x1024 (W (Proc.devRef .tc main_v48)) shapeCasts_S320000x32_S10000x1024) shapeCasts_S10000x1024_S10240000 := by
  simp only [hostOps1_12, TRef.binary, TRef.nullary, TRef.ternary, TRef.unary, TRef.toBuf, TRef.ofBuf, cast_eq]
  after_results_simp
  try rfl

/-- `hostOps1_13` takes the scores. -/
theorem hostOps1_13_v51 (W : Valuation τ sig (Elt F)) :
    (after hostOps1_13 W (no_index (Proc.devRef .tc main_v51)) : (main_v51 : Ref sig .tc).ty.Contents (Elt F)) =
      takeScore (W (Proc.devRef .tc main_v6)) (W (Proc.devRef .tc main_v50)) := by
  simp only [hostOps1_13, TRef.binary, TRef.nullary, TRef.ternary, TRef.unary, TRef.toBuf, TRef.ofBuf, cast_eq]
  after_results_simp
  try rfl

/-- `hostOps1_14` arranges the scores by node. -/
theorem hostOps1_14_v52 (W : Valuation τ sig (Elt F)) :
    (after hostOps1_14 W (no_index (Proc.devRef .tc main_v52)) : (main_v52 : Ref sig .tc).ty.Contents (Elt F)) =
      shapeCast S10000x1024 (W (Proc.devRef .tc main_v51)) shapeCasts_S10240000_S10000x1024 := by
  simp only [hostOps1_14, TRef.binary, TRef.nullary, TRef.ternary, TRef.unary, TRef.toBuf, TRef.ofBuf, cast_eq]
  after_results_simp
  try rfl

/-- `hostOps1_14` compares the neighbours with the last node. -/
theorem hostOps1_14_v54 (W : Valuation τ sig (Elt F)) :
    (after hostOps1_14 W (no_index (Proc.devRef .tc main_v54)) : (main_v54 : Ref sig .tc).ty.Contents (Elt F)) =
      cmpi .ne (W (Proc.devRef .tc main_v49)) (broadcastInDim S10000x1024 ![] bcast_S_S10000x1024 (constantI S_ 32 9999#32)) := by
  simp only [hostOps1_14, TRef.binary, TRef.nullary, TRef.ternary, TRef.unary, TRef.toBuf, TRef.ofBuf, cast_eq]
  after_results_simp
  try rfl

/-- `hostOps1_14` leaves the masking constant. -/
theorem hostOps1_14_cst_9 (W : Valuation τ sig (Elt F)) :
    (after hostOps1_14 W (no_index (Proc.devRef .tc main_cst_9)) : (main_cst_9 : Ref sig .tc).ty.Contents (Elt F)) =
      constant S_ .f32 0xF149F2CA#32 := by
  simp only [hostOps1_14, TRef.binary, TRef.nullary, TRef.ternary, TRef.unary, TRef.toBuf, TRef.ofBuf, cast_eq]
  after_results_simp
  try rfl

/-- `hostOps1_15` applies the mask. -/
theorem hostOps1_15_v55 (W : Valuation τ sig (Elt F)) :
    (after hostOps1_15 W (no_index (Proc.devRef .tc main_v55)) : (main_v55 : Ref sig .tc).ty.Contents (Elt F)) =
      select (W (Proc.devRef .tc main_v54)) (W (Proc.devRef .tc main_v52)) (broadcastInDim S10000x1024 ![] bcast_S_S10000x1024 (W (Proc.devRef .tc main_cst_9))) := by
  simp only [hostOps1_15, TRef.binary, TRef.nullary, TRef.ternary, TRef.unary, TRef.toBuf, TRef.ofBuf, cast_eq]
  after_results_simp
  try rfl

/-- `hostOps1_16` finds where the largest scores stand. -/
theorem hostOps1_16_indices (W : Valuation τ sig (Elt F)) :
    (after hostOps1_16 W (no_index (Proc.devRef .tc main_indices)) : (main_indices : Ref sig .tc).ty.Contents (Elt F)) =
      best (W (Proc.devRef .tc main_v55)) := by
  simp only [hostOps1_16, TRef.binary, TRef.nullary, TRef.ternary, TRef.unary, TRef.toBuf, TRef.ofBuf, cast_eq]
  after_results_simp
  try rfl

/-- `hostOps1_17` picks the best neighbours. -/
theorem hostOps1_17_v56 (W : Valuation τ sig (Elt F)) :
    (after hostOps1_17 W (no_index (Proc.devRef .tc main_v56)) : (main_v56 : Ref sig .tc).ty.Contents (Elt F)) =
      pick (W (Proc.devRef .tc main_v49)) (W (Proc.devRef .tc main_indices)) := by
  simp only [hostOps1_17, TRef.binary, TRef.nullary, TRef.ternary, TRef.unary, TRef.toBuf, TRef.ofBuf, cast_eq]
  after_results_simp
  try rfl

/-- `hostOps1_18` puts the receptive field and the picked neighbours together. -/
theorem hostOps1_18_v58 (W : Valuation τ sig (Elt F)) :
    (after hostOps1_18 W (no_index (Proc.devRef .tc main_v58)) : (main_v58 : Ref sig .tc).ty.Contents (Elt F)) =
      joinLayers (W (Proc.devRef .tc main_arg1)) (W (Proc.devRef .tc main_v56)) := by
  simp only [hostOps1_18, TRef.binary, TRef.nullary, TRef.ternary, TRef.unary, TRef.toBuf, TRef.ofBuf, cast_eq]
  after_results_simp
  try rfl

/-- `hostOps1` leaves every array it does not write as it was. -/
theorem hostOps1_keep (W : Valuation τ sig (Elt F)) {r : Ref sig .tc} (h : r ∉ hostOps1_W) :
    after hostOps1 W (no_index (Proc.devRef .tc r)) = W (Proc.devRef .tc r) :=
  after_of_writes_sub _ _ hostOps1_writes h

/-- `hostOps1_1` leaves every array it does not write as it was. -/
theorem hostOps1_1_keep (W : Valuation τ sig (Elt F)) {r : Ref sig .tc} (h : r ∉ hostOps1_1_W) :
    after hostOps1_1 W (no_index (Proc.devRef .tc r)) = W (Proc.devRef .tc r) :=
  after_of_writes_sub _ _ hostOps1_1_writes h

/-- `hostOps1_2` leaves every array it does not write as it was. -/
theorem hostOps1_2_keep (W : Valuation τ sig (Elt F)) {r : Ref sig .tc} (h : r ∉ hostOps1_2_W) :
    after hostOps1_2 W (no_index (Proc.devRef .tc r)) = W (Proc.devRef .tc r) :=
  after_of_writes_sub _ _ hostOps1_2_writes h

/-- `hostOps1_3` leaves every array it does not write as it was. -/
theorem hostOps1_3_keep (W : Valuation τ sig (Elt F)) {r : Ref sig .tc} (h : r ∉ hostOps1_3_W) :
    after hostOps1_3 W (no_index (Proc.devRef .tc r)) = W (Proc.devRef .tc r) :=
  after_of_writes_sub _ _ hostOps1_3_writes h

/-- `hostOps1_4` leaves every array it does not write as it was. -/
theorem hostOps1_4_keep (W : Valuation τ sig (Elt F)) {r : Ref sig .tc} (h : r ∉ hostOps1_4_W) :
    after hostOps1_4 W (no_index (Proc.devRef .tc r)) = W (Proc.devRef .tc r) :=
  after_of_writes_sub _ _ hostOps1_4_writes h

/-- `hostOps1_5` leaves every array it does not write as it was. -/
theorem hostOps1_5_keep (W : Valuation τ sig (Elt F)) {r : Ref sig .tc} (h : r ∉ hostOps1_5_W) :
    after hostOps1_5 W (no_index (Proc.devRef .tc r)) = W (Proc.devRef .tc r) :=
  after_of_writes_sub _ _ hostOps1_5_writes h

/-- `hostOps1_6` leaves every array it does not write as it was. -/
theorem hostOps1_6_keep (W : Valuation τ sig (Elt F)) {r : Ref sig .tc} (h : r ∉ hostOps1_6_W) :
    after hostOps1_6 W (no_index (Proc.devRef .tc r)) = W (Proc.devRef .tc r) :=
  after_of_writes_sub _ _ hostOps1_6_writes h

/-- `hostOps1_7` leaves every array it does not write as it was. -/
theorem hostOps1_7_keep (W : Valuation τ sig (Elt F)) {r : Ref sig .tc} (h : r ∉ hostOps1_7_W) :
    after hostOps1_7 W (no_index (Proc.devRef .tc r)) = W (Proc.devRef .tc r) :=
  after_of_writes_sub _ _ hostOps1_7_writes h

/-- `hostOps1_8` leaves every array it does not write as it was. -/
theorem hostOps1_8_keep (W : Valuation τ sig (Elt F)) {r : Ref sig .tc} (h : r ∉ hostOps1_8_W) :
    after hostOps1_8 W (no_index (Proc.devRef .tc r)) = W (Proc.devRef .tc r) :=
  after_of_writes_sub _ _ hostOps1_8_writes h

/-- `hostOps1_9` leaves every array it does not write as it was. -/
theorem hostOps1_9_keep (W : Valuation τ sig (Elt F)) {r : Ref sig .tc} (h : r ∉ hostOps1_9_W) :
    after hostOps1_9 W (no_index (Proc.devRef .tc r)) = W (Proc.devRef .tc r) :=
  after_of_writes_sub _ _ hostOps1_9_writes h

/-- `hostOps1_10` leaves every array it does not write as it was. -/
theorem hostOps1_10_keep (W : Valuation τ sig (Elt F)) {r : Ref sig .tc} (h : r ∉ hostOps1_10_W) :
    after hostOps1_10 W (no_index (Proc.devRef .tc r)) = W (Proc.devRef .tc r) :=
  after_of_writes_sub _ _ hostOps1_10_writes h

/-- `hostOps1_11` leaves every array it does not write as it was. -/
theorem hostOps1_11_keep (W : Valuation τ sig (Elt F)) {r : Ref sig .tc} (h : r ∉ hostOps1_11_W) :
    after hostOps1_11 W (no_index (Proc.devRef .tc r)) = W (Proc.devRef .tc r) :=
  after_of_writes_sub _ _ hostOps1_11_writes h

/-- `hostOps1_12` leaves every array it does not write as it was. -/
theorem hostOps1_12_keep (W : Valuation τ sig (Elt F)) {r : Ref sig .tc} (h : r ∉ hostOps1_12_W) :
    after hostOps1_12 W (no_index (Proc.devRef .tc r)) = W (Proc.devRef .tc r) :=
  after_of_writes_sub _ _ hostOps1_12_writes h

/-- `hostOps1_13` leaves every array it does not write as it was. -/
theorem hostOps1_13_keep (W : Valuation τ sig (Elt F)) {r : Ref sig .tc} (h : r ∉ hostOps1_13_W) :
    after hostOps1_13 W (no_index (Proc.devRef .tc r)) = W (Proc.devRef .tc r) :=
  after_of_writes_sub _ _ hostOps1_13_writes h

/-- `hostOps1_14` leaves every array it does not write as it was. -/
theorem hostOps1_14_keep (W : Valuation τ sig (Elt F)) {r : Ref sig .tc} (h : r ∉ hostOps1_14_W) :
    after hostOps1_14 W (no_index (Proc.devRef .tc r)) = W (Proc.devRef .tc r) :=
  after_of_writes_sub _ _ hostOps1_14_writes h

/-- `hostOps1_15` leaves every array it does not write as it was. -/
theorem hostOps1_15_keep (W : Valuation τ sig (Elt F)) {r : Ref sig .tc} (h : r ∉ hostOps1_15_W) :
    after hostOps1_15 W (no_index (Proc.devRef .tc r)) = W (Proc.devRef .tc r) :=
  after_of_writes_sub _ _ hostOps1_15_writes h

/-- `hostOps1_16` leaves every array it does not write as it was. -/
theorem hostOps1_16_keep (W : Valuation τ sig (Elt F)) {r : Ref sig .tc} (h : r ∉ hostOps1_16_W) :
    after hostOps1_16 W (no_index (Proc.devRef .tc r)) = W (Proc.devRef .tc r) :=
  after_of_writes_sub _ _ hostOps1_16_writes h

/-- `hostOps1_17` leaves every array it does not write as it was. -/
theorem hostOps1_17_keep (W : Valuation τ sig (Elt F)) {r : Ref sig .tc} (h : r ∉ hostOps1_17_W) :
    after hostOps1_17 W (no_index (Proc.devRef .tc r)) = W (Proc.devRef .tc r) :=
  after_of_writes_sub _ _ hostOps1_17_writes h

/-- `hostOps1_18` leaves every array it does not write as it was. -/
theorem hostOps1_18_keep (W : Valuation τ sig (Elt F)) {r : Ref sig .tc} (h : r ∉ hostOps1_18_W) :
    after hostOps1_18 W (no_index (Proc.devRef .tc r)) = W (Proc.devRef .tc r) :=
  after_of_writes_sub _ _ hostOps1_18_writes h

/-- The host operations after the pallas call, in order. -/
abbrev hostTail : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]

/-- After the host operations the first result buffer holds `result1` of the arrays the pallas call left. -/
theorem tail_v46 (W : Valuation τ sig (Elt F)) :
    (after hostTail.flatten W (Proc.devRef .tc main_v46) : FVec F S10000x128 .f32) =
      result1 (W (Proc.devRef .tc main_v0)) (W (Proc.devRef .tc main_v5_0)) (W (Proc.devRef .tc main_v5_1))
        (W (Proc.devRef .tc main_v5_2)) := by
  simp only [hostTail, List.flatten_cons, List.flatten_nil, List.append_nil, after_append]
  simp (disch := decide) only [hostOps1_keep, hostOps1_1_keep, hostOps1_2_keep, hostOps1_3_keep, hostOps1_4_keep, hostOps1_5_keep, hostOps1_6_keep, hostOps1_7_keep, hostOps1_8_keep, hostOps1_9_keep, hostOps1_10_keep, hostOps1_11_keep, hostOps1_12_keep, hostOps1_13_keep, hostOps1_14_keep, hostOps1_15_keep, hostOps1_16_keep, hostOps1_17_keep, hostOps1_18_keep,
    hostOps1_v6, hostOps1_v7, hostOps1_1_v8, hostOps1_2_v10, hostOps1_2_v12, hostOps1_2_v14, hostOps1_3_v15, hostOps1_4_v17, hostOps1_4_cst_1, hostOps1_5_v18, hostOps1_6_v40, hostOps1_6_v41, hostOps1_7_v42, hostOps1_8_v45, hostOps1_9_v46, hostOps1_10_v47, hostOps1_11_v48, hostOps1_12_v49, hostOps1_12_v50, hostOps1_13_v51, hostOps1_14_v52, hostOps1_14_v54, hostOps1_14_cst_9, hostOps1_15_v55, hostOps1_16_indices, hostOps1_17_v56, hostOps1_18_v58]
  rfl

/-- After the host operations the second result buffer holds `result2` of the arrays the pallas call left. -/
theorem tail_v58 (W : Valuation τ sig (Elt F)) :
    (after hostTail.flatten W (Proc.devRef .tc main_v58) : IVec S2x10000x32 32) =
      result2 (W (Proc.devRef .tc main_arg1)) (W (Proc.devRef .tc main_v0)) (W (Proc.devRef .tc main_arg2))
        (W (Proc.devRef .tc main_v5_3)) := by
  simp only [hostTail, List.flatten_cons, List.flatten_nil, List.append_nil, after_append]
  simp (disch := decide) only [hostOps1_keep, hostOps1_1_keep, hostOps1_2_keep, hostOps1_3_keep, hostOps1_4_keep, hostOps1_5_keep, hostOps1_6_keep, hostOps1_7_keep, hostOps1_8_keep, hostOps1_9_keep, hostOps1_10_keep, hostOps1_11_keep, hostOps1_12_keep, hostOps1_13_keep, hostOps1_14_keep, hostOps1_15_keep, hostOps1_16_keep, hostOps1_17_keep, hostOps1_18_keep,
    hostOps1_v6, hostOps1_v7, hostOps1_1_v8, hostOps1_2_v10, hostOps1_2_v12, hostOps1_2_v14, hostOps1_3_v15, hostOps1_4_v17, hostOps1_4_cst_1, hostOps1_5_v18, hostOps1_6_v40, hostOps1_6_v41, hostOps1_7_v42, hostOps1_8_v45, hostOps1_9_v46, hostOps1_10_v47, hostOps1_11_v48, hostOps1_12_v49, hostOps1_12_v50, hostOps1_13_v51, hostOps1_14_v52, hostOps1_14_v54, hostOps1_14_cst_9, hostOps1_15_v55, hostOps1_16_indices, hostOps1_17_v56, hostOps1_18_v58]
  rfl

end Cert.KernelIdeal.Tail
-- ==== Proof.Common.lean ====
module

public import Idealize.ShloMosaic.Lib.Pointwise

/-!
# The matrix products both programs compute
-/

@[expose] public section

noncomputable section

namespace Cert.Attention

open Idealize.ShloMosaic

/-- The product of an `n × k` array and a `k × p` array plus a row added to every row of it. -/
def affine {n k p : Nat} (x : FVec Ideal ⟨2, ![n, k]⟩ .f32) (w : FVec Ideal ⟨2, ![k, p]⟩ .f32)
    (b : FVec Ideal ⟨2, ![1, p]⟩ .f32) : FVec Ideal ⟨2, ![n, p]⟩ .f32 :=
  fun j => (∑ d : Fin k, x (ix2 (j 0) d) * w (ix2 d (j 1))) + b (ix2 0 (j 1))

end Cert.Attention
-- ==== Proof.KernelArrays.lean ====
module

public import proofs.«01_k».proof.Proof.Gen.KernelIdeal.Frame
public import proofs.«01_k».proof.Proof.Common
public import Idealize.ShloMosaic.Lib.Pipeline.ValueKit

/-!
# What the kernel's pallas call leaves in its five output arrays

The call works on ten blocks of a thousand rows.  Each block holds the same function of the block's rows of the input,
so the arrays it leaves are that function of the whole input.
-/

@[expose] public section

set_option maxRecDepth 16384

noncomputable section

namespace Cert.KernelIdeal.Arrays

open Idealize.ShloMosaic Idealize.ShloMosaic.TcCoe Idealize.ShloMosaic.Tactic
open Cert.KernelIdeal Cert.KernelIdeal.Gen
open Cert.Attention

/-- A block of the hidden rows is the product of the block of the input and the weights, plus the bias. -/
theorem pay2_eq (x : Vec Ideal S1000x128 .f32) (w : Vec Ideal S128x128 .f32) (b : Vec Ideal S1x128 .f32) :
    k0_pay2 (F := Ideal) x w b = affine x w b := by
  funext j
  pointwise [k0_pay2, affine]

/-- A block of the keys is the product of the block of the input and the key weights, plus the bias. -/
theorem pay3_eq (x : Vec Ideal S1000x128 .f32) (w : Vec Ideal S128x16 .f32) (b : Vec Ideal S1x16 .f32) :
    k0_pay3 (F := Ideal) x w b = affine x w b := by
  funext j
  pointwise [k0_pay3, affine]

/-- A block of the queries is the product of the block of the input and the query weights, plus the bias. -/
theorem pay4_eq (x : Vec Ideal S1000x128 .f32) (w : Vec Ideal S128x16 .f32) (b : Vec Ideal S1x16 .f32) :
    k0_pay4 (F := Ideal) x w b = affine x w b := by
  funext j
  pointwise [k0_pay4, affine]

/-- A block of the left scores is the product of the block of hidden rows and the score weights, plus the bias. -/
theorem pay5_eq (x : Vec Ideal S1000x128 .f32) (w : Vec Ideal S128x128 .f32) (b : Vec Ideal S1x128 .f32)
    (l : Vec Ideal S128x1 .f32) (d : Vec Ideal S1x1 .f32) :
    k0_pay5 (F := Ideal) x w b l d = affine (affine x w b) l d := by
  funext j
  rw [← pay2_eq]
  idx_vars j
  obtain rfl : j1 = 0 := Subsingleton.elim _ _
  pointwise [k0_pay5, affine]

/-- A block of the right scores is the product of the block of hidden rows and the score weights, plus the bias. -/
theorem pay1_eq (h : FVec Ideal S1000x128 .f32) (l : Vec Ideal S128x1 .f32) (d : Vec Ideal S1x1 .f32) :
    k0_pay1 (F := Ideal) h l d = affine h l d := by
  funext j
  idx_vars j
  obtain rfl : j1 = 0 := Subsingleton.elim _ _
  pointwise [k0_pay1, affine]

/-- Two rows that agree have the same product with the same weights. -/
theorem affine_row {n n' k p : Nat} {x : FVec Ideal ⟨2, ![n, k]⟩ .f32} {x' : FVec Ideal ⟨2, ![n', k]⟩ .f32}
    (w : FVec Ideal ⟨2, ![k, p]⟩ .f32) (b : FVec Ideal ⟨2, ![1, p]⟩ .f32)
    (j : (⟨2, ![n, p]⟩ : Shape).Idx) (j' : (⟨2, ![n', p]⟩ : Shape).Idx)
    (hx : ∀ d, x (ix2 (j 0) d) = x' (ix2 (j' 0) d)) (hj : (j 1 : Nat) = j' 1) :
    affine x w b j = affine x' w b j' := by
  have e : (j 1 : Fin p) = j' 1 := Fin.ext hj
  unfold affine
  rw [e]
  simp only [hx]

variable (m : (ℓ : Loc nD τ sig) → Buf (Elt Ideal) ℓ)

/-- Where the blocks of the input and of the five outputs start. -/
theorem index_rows : ∀ t : Fin cfg0.N, win0_0.index t = ![t.val, 0] ∧ win0_11.index t = ![t.val, 0]
    ∧ win0_12.index t = ![t.val, 0] ∧ win0_13.index t = ![t.val, 0] ∧ win0_14.index t = ![t.val, 0]
    ∧ win0_15.index t = ![t.val, 0] := by
  decide +kernel

/-- The other inputs are read whole at every point. -/
theorem index_whole : ∀ t : Fin cfg0.N, win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] := by
  decide +kernel

/-- The block of input 1 at any point is its whole array. -/
theorem iblk1 (c : Dev nD) (t : Fin cfg0.N) : iblk m c 1 t = V m c main_v1 := by
  funext j
  blk_simp [iblk, (index_whole t).1]
  congr 1
  blk_ext [(index_whole t).1]

/-- The block of input 2 at any point is its whole array. -/
theorem iblk2 (c : Dev nD) (t : Fin cfg0.N) : iblk m c 2 t = V m c main_v2 := by
  funext j
  blk_simp [iblk, (index_whole t).2.1]
  congr 1
  blk_ext [(index_whole t).2.1]

/-- The block of input 3 at any point is its whole array. -/
theorem iblk3 (c : Dev nD) (t : Fin cfg0.N) : iblk m c 3 t = V m c main_arg9 := by
  funext j
  blk_simp [iblk, (index_whole t).2.2.1]
  congr 1
  blk_ext [(index_whole t).2.2.1]

/-- The block of input 4 at any point is its whole array. -/
theorem iblk4 (c : Dev nD) (t : Fin cfg0.N) : iblk m c 4 t = V m c main_arg10 := by
  funext j
  blk_simp [iblk, (index_whole t).2.2.2.1]
  congr 1
  blk_ext [(index_whole t).2.2.2.1]

/-- The block of input 5 at any point is its whole array. -/
theorem iblk5 (c : Dev nD) (t : Fin cfg0.N) : iblk m c 5 t = V m c main_arg11 := by
  funext j
  blk_simp [iblk, (index_whole t).2.2.2.2.1]
  congr 1
  blk_ext [(index_whole t).2.2.2.2.1]

/-- The block of input 6 at any point is its whole array. -/
theorem iblk6 (c : Dev nD) (t : Fin cfg0.N) : iblk m c 6 t = V m c main_arg12 := by
  funext j
  blk_simp [iblk, (index_whole t).2.2.2.2.2.1]
  congr 1
  blk_ext [(index_whole t).2.2.2.2.2.1]

/-- The block of input 7 at any point is its whole array. -/
theorem iblk7 (c : Dev nD) (t : Fin cfg0.N) : iblk m c 7 t = V m c main_arg3 := by
  funext j
  blk_simp [iblk, (index_whole t).2.2.2.2.2.2.1]
  congr 1
  blk_ext [(index_whole t).2.2.2.2.2.2.1]

/-- The block of input 8 at any point is its whole array. -/
theorem iblk8 (c : Dev nD) (t : Fin cfg0.N) : iblk m c 8 t = V m c main_arg4 := by
  funext j
  blk_simp [iblk, (index_whole t).2.2.2.2.2.2.2.1]
  congr 1
  blk_ext [(index_whole t).2.2.2.2.2.2.2.1]

/-- The block of input 9 at any point is its whole array. -/
theorem iblk9 (c : Dev nD) (t : Fin cfg0.N) : iblk m c 9 t = V m c main_v3 := by
  funext j
  blk_simp [iblk, (index_whole t).2.2.2.2.2.2.2.2.1]
  congr 1
  blk_ext [(index_whole t).2.2.2.2.2.2.2.2.1]

/-- The block of input 10 at any point is its whole array. -/
theorem iblk10 (c : Dev nD) (t : Fin cfg0.N) : iblk m c 10 t = V m c main_v4 := by
  funext j
  blk_simp [iblk, (index_whole t).2.2.2.2.2.2.2.2.2]
  congr 1
  blk_ext [(index_whole t).2.2.2.2.2.2.2.2.2]

/-- Row `r` of the block of the input at point `t` is row `1000 t + r` of the input. -/
theorem iblk0_row (c : Dev nD) (t : Fin cfg0.N) (r : Fin 1000) (d : Fin 128) (r' : Fin 10000)
    (hr : (r' : Nat) = t.val * 1000 + r) :
    (iblk m c 0 t : Vec Ideal S1000x128 .f32) (ix2 r d) = (V m c main_arg0 : Vec Ideal S10000x128 .f32) (ix2 r' d) := by
  blk_simp [iblk, (index_rows t).1]
  congr 1
  blk_ext [(index_rows t).1]

/-- The hidden rows the call leaves. -/
theorem arr11 (c : Dev nD) : (dats m 0 c).arrAt 11 cfg0.N
    = affine (V m c main_arg0) (V m c main_v1) (V m c main_v2) := by
  refine (dats m 0 c).arrAt_eq_of_covers 11 _ (by decide +kernel) fun t hf y => ?_
  blk_simp
  rw [after0_11]
  frame_out
  rw [pay2_eq, iblk1, iblk2]
  refine affine_row _ _ _ _ (fun d => iblk0_row m c t _ d _ ?_) ?_
  · blk_simp [(index_rows t).2.1]
  · blk_simp [(index_rows t).2.1]

/-- The keys the call leaves. -/
theorem arr12 (c : Dev nD) : (dats m 0 c).arrAt 12 cfg0.N
    = affine (V m c main_arg0) (V m c main_arg9) (V m c main_arg10) := by
  refine (dats m 0 c).arrAt_eq_of_covers 12 _ (by decide +kernel) fun t hf y => ?_
  blk_simp
  rw [after0_12]
  frame_out
  rw [pay3_eq, iblk3, iblk4]
  refine affine_row _ _ _ _ (fun d => iblk0_row m c t _ d _ ?_) ?_
  · blk_simp [(index_rows t).2.2.1]
  · blk_simp [(index_rows t).2.2.1]

/-- The queries the call leaves. -/
theorem arr13 (c : Dev nD) : (dats m 0 c).arrAt 13 cfg0.N
    = affine (V m c main_arg0) (V m c main_arg11) (V m c main_arg12) := by
  refine (dats m 0 c).arrAt_eq_of_covers 13 _ (by decide +kernel) fun t hf y => ?_
  blk_simp
  rw [after0_13]
  frame_out
  rw [pay4_eq, iblk5, iblk6]
  refine affine_row _ _ _ _ (fun d => iblk0_row m c t _ d _ ?_) ?_
  · blk_simp [(index_rows t).2.2.2.1]
  · blk_simp [(index_rows t).2.2.2.1]

/-- The left scores the call leaves. -/
theorem arr14 (c : Dev nD) : (dats m 0 c).arrAt 14 cfg0.N
    = affine (affine (V m c main_arg0) (V m c main_v1) (V m c main_v2)) (V m c main_arg3) (V m c main_v3) := by
  refine (dats m 0 c).arrAt_eq_of_covers 14 _ (by decide +kernel) fun t hf y => ?_
  blk_simp
  rw [after0_14]
  frame_out
  rw [pay5_eq, iblk1, iblk2, iblk7, iblk9]
  refine affine_row _ _ _ _ (fun d => affine_row _ _ _ _ (fun d => iblk0_row m c t _ d _ ?_) rfl) ?_
  · blk_simp [(index_rows t).2.2.2.2.1]
  · blk_simp [(index_rows t).2.2.2.2.1]

end Cert.KernelIdeal.Arrays
-- ==== Proof.KernelRun.lean ====
module

public import proofs.«01_k».proof.Proof.KernelTail
public import proofs.«01_k».proof.Proof.KernelArrays

/-!
# What the kernel's run leaves in its two result buffers
-/

@[expose] public section

set_option maxRecDepth 16384

noncomputable section

namespace Cert.KernelIdeal.Run

open Idealize.ShloMosaic Idealize.ShloMosaic.TcCoe Idealize.ShloMosaic.Tactic
open Idealize.SL.Sem
open Cert.KernelIdeal Cert.KernelIdeal.Gen Cert.KernelIdeal.Tail Cert.KernelIdeal.Arrays
open Cert.Attention

variable (m : (ℓ : Loc nD τ sig) → Buf (Elt Ideal) ℓ) (ρ : Dev nD → PrngReg)

/-- An argument of the program as launched. -/
abbrev arg (c : Dev nD) (b : Ref sig .tc) : Buf (Elt Ideal) ((c : Thread nD τ).loc b) := m ((c : Thread nD τ).loc b)

/-- The receptive field without its leading axis of length one. -/
abbrev rf (c : Dev nD) : IVec S10000x32 32 := shapeCast S10000x32 (arg m c main_arg1 : IVec S1x10000x32 32)
  shapeCasts_S1x10000x32_S10000x32

/-- The hidden rows: the input times the layer's weights, plus its bias. -/
abbrev hidden (c : Dev nD) : FVec Ideal S10000x128 .f32 :=
  affine (arg m c main_arg0)
    (shapeCast S128x128 (arg m c main_arg7 : FVec Ideal S1x128x128 .f32) shapeCasts_S1x128x128_S128x128)
    (shapeCast S1x128 (arg m c main_arg8 : FVec Ideal S1x1x128 .f32) shapeCasts_S1x1x128_S1x128)

/-- The keys. -/
abbrev key (c : Dev nD) : FVec Ideal S10000x16 .f32 :=
  affine (arg m c main_arg0) (arg m c main_arg9) (arg m c main_arg10)

/-- The queries. -/
abbrev query (c : Dev nD) : FVec Ideal S10000x16 .f32 :=
  affine (arg m c main_arg0) (arg m c main_arg11) (arg m c main_arg12)

/-- The left scores. -/
abbrev left (c : Dev nD) : FVec Ideal S10000x1 .f32 :=
  affine (hidden m c) (arg m c main_arg3)
    (shapeCast S1x1 (arg m c main_arg5 : FVec Ideal S1 .f32) shapeCasts_S1_S1x1)

/-- The receptive field as the pallas call finds it. -/
theorem V_v0 (c : Dev nD) : V m c main_v0 = rf m c := by
  simp only [V, V0, hostOps0, List.flatten_cons, List.flatten_nil, List.append_nil]
  after_results_simp
  rfl

/-- The layer's weights as the pallas call finds them. -/
theorem V_v1 (c : Dev nD) : V m c main_v1 =
    shapeCast S128x128 (arg m c main_arg7 : FVec Ideal S1x128x128 .f32) shapeCasts_S1x128x128_S128x128 := by
  simp only [V, V0, hostOps0, List.flatten_cons, List.flatten_nil, List.append_nil]
  after_results_simp
  rfl

/-- The layer's bias as the pallas call finds it. -/
theorem V_v2 (c : Dev nD) : V m c main_v2 =
    shapeCast S1x128 (arg m c main_arg8 : FVec Ideal S1x1x128 .f32) shapeCasts_S1x1x128_S1x128 := by
  simp only [V, V0, hostOps0, List.flatten_cons, List.flatten_nil, List.append_nil]
  after_results_simp
  rfl

/-- The left bias as the pallas call finds it. -/
theorem V_v3 (c : Dev nD) : V m c main_v3 =
    shapeCast S1x1 (arg m c main_arg5 : FVec Ideal S1 .f32) shapeCasts_S1_S1x1 := by
  simp only [V, V0, hostOps0, List.flatten_cons, List.flatten_nil, List.append_nil]
  after_results_simp
  rfl

/-- The device's arrays right after the pallas call. -/
abbrev W (c : Dev nD) : Valuation τ sig (Elt Ideal) :=
  Pipeline.withArrays (cfgs 0).spec c (V0 m c) fun w => (dats m 0 c).arrAt w (cfgs 0).N

/-- The windows stand on different arrays. -/
theorem arr_inj : Function.Injective (Pipeline.arrRef (cfgs 0).spec) := by
  exact (by decide : Function.Injective (Pipeline.arrRef spec0))

/-- The pallas call leaves the hidden rows. -/
theorem W_v5_0 (c : Dev nD) : W m c (Proc.devRef .tc main_v5_0) = hidden m c :=
  (Pipeline.withArrays_arr (cfgs 0).spec arr_inj c (V0 m c) _ (11 : Fin 16)).trans
    ((arr11 m c).trans (by rw [V_main_arg0, V_v1, V_v2]))

/-- The pallas call leaves the keys. -/
theorem W_v5_1 (c : Dev nD) : W m c (Proc.devRef .tc main_v5_1) = key m c :=
  (Pipeline.withArrays_arr (cfgs 0).spec arr_inj c (V0 m c) _ (12 : Fin 16)).trans
    ((arr12 m c).trans (by rw [V_main_arg0, V_main_arg9, V_main_arg10]))

/-- The pallas call leaves the queries. -/
theorem W_v5_2 (c : Dev nD) : W m c (Proc.devRef .tc main_v5_2) = query m c :=
  (Pipeline.withArrays_arr (cfgs 0).spec arr_inj c (V0 m c) _ (13 : Fin 16)).trans
    ((arr13 m c).trans (by rw [V_main_arg0, V_main_arg11, V_main_arg12]))

/-- The pallas call leaves the left scores. -/
theorem W_v5_3 (c : Dev nD) : W m c (Proc.devRef .tc main_v5_3) = left m c :=
  (Pipeline.withArrays_arr (cfgs 0).spec arr_inj c (V0 m c) _ (14 : Fin 16)).trans
    ((arr14 m c).trans (by rw [V_main_arg0, V_v1, V_v2, V_main_arg3, V_v3]))

/-- The pallas call leaves the receptive field as it was. -/
theorem W_v0 (c : Dev nD) : W m c (Proc.devRef .tc main_v0) = rf m c :=
  (Pipeline.withArrays_of_ne _ c (V0 m c) _ main_v0 (by exact (by decide : ∀ w, Pipeline.arrRef spec0 w ≠ main_v0))).trans
    (V_v0 m c)

/-- The pallas call leaves the receptive field's argument as it was. -/
theorem W_arg1 (c : Dev nD) : W m c (Proc.devRef .tc main_arg1) = arg m c main_arg1 :=
  (Pipeline.withArrays_of_ne _ c (V0 m c) _ main_arg1 (by exact (by decide : ∀ w, Pipeline.arrRef spec0 w ≠ main_arg1))).trans
    (V_main_arg1 m c)

/-- The pallas call leaves the table of neighbours as it was. -/
theorem W_arg2 (c : Dev nD) : W m c (Proc.devRef .tc main_arg2) = arg m c main_arg2 :=
  (Pipeline.withArrays_of_ne _ c (V0 m c) _ main_arg2 (by exact (by decide : ∀ w, Pipeline.arrRef spec0 w ≠ main_arg2))).trans
    (V_main_arg2 m c)

/-- The first result the run leaves. -/
abbrev out1 (c : Dev nD) : FVec Ideal S10000x128 .f32 := result1 (rf m c) (hidden m c) (key m c) (query m c)

/-- The second result the run leaves. -/
abbrev out2 (c : Dev nD) : IVec S2x10000x32 32 :=
  result2 (arg m c main_arg1) (rf m c) (arg m c main_arg2) (left m c)

/-- Every run of the kernel ends with its two results in the result buffers. -/
theorem run_results : θ_run defs (onTc (τ := τ) (main (F := Ideal))) ⟨m, fun _ => 0, ρ⟩ (fun r =>
    (∀ c : Dev nD, r.2.mem ((c : Thread nD τ).loc main_v46) = out1 m c
      ∧ r.2.mem ((c : Thread nD τ).loc main_v58) = out2 m c)
    ∧ Pipeline.FramePost cfgs (dats m) 0 (Pipeline.afterTail₀ cfgs (dats m) 0 (V0 m) hostTail) r) :=
  (θ_run defs _ _).mono (fun r h => ⟨fun c =>
    ⟨((h c).2 main_v46 (Pipeline.mem_restRefs_of main_v46 (by decide) (by decide))).trans
        ((tail_v46 (W m c)).trans (by rw [W_v0, W_v5_0, W_v5_1, W_v5_2])),
      ((h c).2 main_v58 (Pipeline.mem_restRefs_of main_v58 (by decide) (by decide))).trans
        ((tail_v58 (W m c)).trans (by rw [W_v0, W_arg1, W_arg2, W_v5_3]))⟩, h⟩) (run_main m ρ)

end Cert.KernelIdeal.Run
-- ==== Proof.Softmax.lean ====
module

public import proofs.«01_k».proof.Proof.KernelTail
public import proofs.«01_k».proof.Proof.Common

/-!
# The softmax of a row
-/

@[expose] public section

set_option maxRecDepth 8192

noncomputable section

namespace Cert.Attention

open Idealize.ShloMosaic
open Cert.KernelIdeal Cert.KernelIdeal.Gen Cert.KernelIdeal.Tail

/-- The number a row's entries have subtracted before the exponential: the largest entry, or the starting value of the
maximum when that is larger. -/
def rowTop (w : Fin 32 → EReal) : EReal :=
  max (Ideal.ofBits FTy.f32 0xFF800000#32) (Finset.fold max (Ideal.ofBits FTy.f32 0xFF800000#32) w Finset.univ)

/-- Entry `r` of the softmax of a row. -/
def softmaxRow (w : Fin 32 → EReal) (r : Fin 32) : EReal :=
  Ideal.div (Ideal.exp (w r - rowTop w)) (∑ x, Ideal.exp (w x - rowTop w))

/-- Exponentials divided by their sum are the softmax of the row, row by row. -/
theorem softmax_apply (a : FVec Ideal S10000x32 .f32) (n : Fin 10000) (r : Fin 32) :
    normRows (expRows a) (ix2 n r) = softmaxRow (fun k => a (ix2 n k)) r := by
  pointwise [normRows, expRows]
  rfl

/-- The largest entry does not depend on the order of the row. -/
theorem rowTop_comp (w : Fin 32 → EReal) (π : Fin 32 ≃ Fin 32) : rowTop (fun k => w (π k)) = rowTop w := by
  unfold rowTop
  congr 1
  have h := Finset.fold_map (op := (max : EReal → EReal → EReal)) (b := Ideal.ofBits FTy.f32 0xFF800000#32)
    (f := w) (g := π.toEmbedding) (s := Finset.univ)
  rw [Finset.univ_map_equiv_to_embedding] at h
  exact h.symm

/-- The softmax of a reordered row is the reordered softmax. -/
theorem softmaxRow_comp (w : Fin 32 → EReal) (π : Fin 32 ≃ Fin 32) (r : Fin 32) :
    softmaxRow (fun k => w (π k)) r = softmaxRow w (π r) := by
  unfold softmaxRow
  rw [rowTop_comp, Equiv.sum_comp π (fun x => Ideal.exp (w x - rowTop w))]

end Cert.Attention
-- ==== Proof.Reads.lean ====
module

public import Idealize.ShloMosaic.Lib.Pointwise
public import Idealize.ShloMosaic.Lib.Pointwise.IndexBridge
public import Idealize.ShloMosaic.Lib.SortFacts
public import Idealize.ShloMosaic.Lib.Routing.OpsSet
public import Idealize.ShloMosaic.Lib.StableHlo.Predicate
public import Idealize.ShloMosaic.Lib.ReduceAll

/-!
# Reading gathers and sorts at an index
-/

@[expose] public section

noncomputable section

namespace Cert.Attention

open Idealize.ShloMosaic

/-! ## Gathers along the second axis -/

/-- The dimension numbers of a gather that takes, in each row, the entries standing at given positions of that row. -/
def alongDims (N K P : Nat)
    (wf : GatherDims.WF ⟨2, ![N, K]⟩ ⟨3, ![N, P, 1]⟩ ⟨2, ![N, P]⟩ [] [1] [0] [1] [0] 2 ![1, 1]) :
    GatherDims ⟨2, ![N, K]⟩ ⟨3, ![N, P, 1]⟩ ⟨2, ![N, P]⟩ where
  offsetDims := []
  collapsedSliceDims := [1]
  operandBatchingDims := [0]
  startIndicesBatchingDims := [0]
  startIndexMap := [1]
  indexVectorDim := 2
  sliceSizes := ![1, 1]
  wf := wf

/-- Such a gather at row `n` and column `p` is the entry of row `n` at the position named there. -/
theorem gather_along {α : Type} {N K P : Nat}
    (wf : GatherDims.WF ⟨2, ![N, K]⟩ ⟨3, ![N, P, 1]⟩ ⟨2, ![N, P]⟩ [] [1] [0] [1] [0] 2 ![1, 1])
    (x : (⟨2, ![N, K]⟩ : Shape).Idx → α) (idx : IVec ⟨3, ![N, P, 1]⟩ 32) (n : Fin N) (p : Fin P) (b : Fin K)
    (hb : idx (ix3 n p 0) = BitVec.ofNat 32 b.val) (hK : K < 2 ^ 31) :
    Host.gather (alongDims N K P wf) x idx (ix2 n p) = x (ix2 n b) := by
  have hbl := b.isLt
  unfold Host.gather
  refine congrArg x (funext fun a => Fin.ext ?_)
  show (alongDims N K P wf).start (ix2 n p) idx a + (alongDims N K P wf).batchCoord (ix2 n p) a
      + (alongDims N K P wf).offCoord (ix2 n p) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)),
      GatherDims.batchCoord,
      dif_pos (show (0 : Fin 2) ∈ (alongDims N K P wf).operandBatchingDims from List.mem_singleton.mpr rfl)]
    simp only [Nat.zero_add, Nat.add_zero]
    rfl
  · rw [GatherDims.batchCoord_eq_zero _ _ _ (fun h => by simp [alongDims] at h),
      GatherDims.offCoord_eq_zero _ _ _ (fun h => ((GatherDims.mem_sKept _ _).mp h).1 (List.mem_singleton.mpr rfl))]
    have hm : (1 : Fin 2) ∈ (alongDims N K P wf).startIndexMap := List.mem_singleton.mpr rfl
    have hsi : (alongDims N K P wf).siIdx (ix2 n p) ⟨List.idxOf (1 : Fin 2) (alongDims N K P wf).startIndexMap,
        List.idxOf_lt_length_iff.2 hm⟩ = ix3 n p 0 := by
      funext c
      refine Fin.ext ?_
      match c with
      | ⟨0, _⟩ => rfl
      | ⟨1, _⟩ => rfl
      | ⟨2, _⟩ => rfl
    simp only [Nat.add_zero]
    rw [GatherDims.start, dif_pos hm, hsi, hb, StableHlo.Predicate.toInt_ofNat_small _ (by omega)]
    show min b.val (K - 1) = b.val
    omega

/-! ## Words that name positions -/

/-- A word that is a small number is not counted from the end. -/
theorem wrap_word (b : Nat) (v : BitVec 32) (hb : b < 2 ^ 31) :
    Scalar.select (IntOp.cmpi .slt (BitVec.ofNat 32 b) 0#32) v (BitVec.ofNat 32 b) = BitVec.ofNat 32 b := by
  have h : IntOp.cmpi .slt (BitVec.ofNat 32 b) 0#32 ≠ 1#1 := fun e =>
    Nat.not_lt_zero b ((StableHlo.Predicate.slt_ofNat_iff b 0 hb (by omega)).mp e)
  rw [ValueIdx.eq_zero_of_ne_one h, ValueIdx.select_zero]

/-- A word that is a number up to `M` passes the test for lying between `0` and `M`. -/
theorem inside_word (b M : Nat) (hb : b ≤ M) (hM : M < 2 ^ 31) :
    IntOp.andi (IntOp.cmpi .sge (BitVec.ofNat 32 b) 0#32) (IntOp.cmpi .sle (BitVec.ofNat 32 b) (BitVec.ofNat 32 M))
      = 1#1 := by
  have h0 : IntOp.cmpi .sge (BitVec.ofNat 32 b) 0#32 = 1#1 := by
    rw [StableHlo.Predicate.sge_iff_toNat] <;> simp <;> omega
  have h1 : IntOp.cmpi .sle (BitVec.ofNat 32 b) (BitVec.ofNat 32 M) = 1#1 :=
    (StableHlo.Predicate.sle_ofNat_iff b M (by omega) hM).mpr hb
  rw [h0, h1]
  rfl

/-- The start of a row plus a place in it, as words, is the word of the position in the flat list. -/
theorem row_word (n m b : Nat) : IntOp.addi (BitVec.ofNat 32 b) (IntOp.addi 0#32
    (IntOp.muli (BitVec.ofNat 32 m) (BitVec.ofNat 32 n))) = BitVec.ofNat 32 (n * m + b) := by
  show BitVec.ofNat 32 b + (0#32 + BitVec.ofNat 32 m * BitVec.ofNat 32 n) = BitVec.ofNat 32 (n * m + b)
  rw [BitVec.zero_add, ← BitVec.ofNat_mul, ← BitVec.ofNat_add, Nat.mul_comm m n, Nat.add_comm]

/-- The conjunction over an axis of length one is the one bit there. -/
theorem fold_andi_one (g : Fin 1 → BitVec 1) (h : g 0 = 1#1) :
    Finset.fold IntOp.andi 1#1 g Finset.univ = 1#1 := by
  rw [Finset.univ_unique, Finset.fold_singleton]
  show IntOp.andi (g 0) 1#1 = 1#1
  rw [h]
  rfl

/-! ## Sorts along the second axis -/

/-- The position whose entry a stable sort of a row puts at `k`, when `before` compares two entries. -/
def rowOrder {α : Type} {K : Nat} (before : α → α → BitVec 1) (w : Fin K → α) : Fin K → Fin K :=
  sortedFrom fun a b => before (w a) (w b) == 1#1

/-- The order as a bijection of positions. -/
def rowPerm {α : Type} {K : Nat} (before : α → α → BitVec 1) (w : Fin K → α) : Fin K ≃ Fin K :=
  Equiv.ofBijective (rowOrder before w) ⟨sortedFrom_injective _, sortedFrom_surjective _⟩

/-- Sorting an array along its second axis together with the positions, by a comparison of the array's entries, puts
the row's order into the positions. -/
theorem sort2_positions {α : Type} {N K : Nat} (cmp : α × BitVec 32 → α × BitVec 32 → BitVec 1)
    (before : α → α → BitVec 1) (hc : ∀ l r, cmp l r = before l.1 r.1) (x : (⟨2, ![N, K]⟩ : Shape).Idx → α)
    (y : IVec ⟨2, ![N, K]⟩ 32) (hy : ∀ n k, y (ix2 n k) = BitVec.ofNat 32 k.val) (n : Fin N) (k : Fin K) :
    (Host.sort2 ⟨2, ![N, K]⟩ 1 cmp x y).2 (ix2 n k)
      = BitVec.ofNat 32 (rowOrder before (fun a => x (ix2 n a)) k).val := by
  have ha : ∀ c : Fin K, (ix2 n k).along (1 : Fin 2) c = ix2 n c := by
    intro c
    funext d
    match d with
    | ⟨0, _⟩ => rfl
    | ⟨1, _⟩ => rfl
  unfold Host.sort2
  rw [dif_pos (show 1 < (⟨2, ![N, K]⟩ : Shape).rank from Nat.lt_succ_self 1)]
  refine (congrArg y (ha _)).trans ((hy n _).trans ?_)
  refine congrArg (fun q : Fin K => BitVec.ofNat 32 q.val) ?_
  unfold rowOrder
  refine congrFun (sortedFrom_congr _ _ fun a b _ => ?_) k
  show (cmp (x ((ix2 n k).along (1 : Fin 2) a), _) (x ((ix2 n k).along (1 : Fin 2) b), _) == 1#1) = _
  rw [ha, ha, hc]

end Cert.Attention
-- ==== Proof.Takes.lean ====
module

public import proofs.«01_k».proof.Proof.KernelTail
public import proofs.«01_k».proof.Proof.Reads

/-!
# Taking rows at positions that lie in the table
-/

@[expose] public section

set_option maxRecDepth 8192

noncomputable section

namespace Cert.Attention

open Idealize.ShloMosaic
open Cert.KernelIdeal Cert.KernelIdeal.Gen Cert.KernelIdeal.Tail

/-- The index column holds the given node number unchanged. -/
theorem wrapFlat_apply (i : IVec S320000 32) (p : Fin 320000) (b : Fin 10000)
    (h : i (ix1 p) = BitVec.ofNat 32 b.val) (z : Fin 1) : wrapFlat i (ix2 p z) = BitVec.ofNat 32 b.val := by
  pointwise [wrapFlat]
  rw [h]
  exact wrap_word _ _ (by have := b.isLt; omega)

/-- A node number lies in the table. -/
theorem inTable_apply (i : IVec S320000 32) (p : Fin 320000) (b : Fin 10000)
    (h : i (ix1 p) = BitVec.ofNat 32 b.val) : inTable (wrapFlat i) (ix1 p) = 1#1 := by
  pointwise [inTable]
  refine fold_andi_one _ ?_
  rw [wrapFlat_apply i p b h]
  exact inside_word _ 9999 (by have := b.isLt; omega) (by omega)

/-- Taking a query row at a node number is that row. -/
theorem takeQuery_apply (q : FVec Ideal S10000x16 .f32) (i : IVec S320000 32) (p : Fin 320000) (b : Fin 10000)
    (h : i (ix1 p) = BitVec.ofNat 32 b.val) (f : Fin 16) : takeQuery q i (ix2 p f) = q (ix2 b f) := by
  pointwise [takeQuery]
  rw [inTable_apply i p b h, ValueIdx.select_one, ix2_eq_valueIdx, ix2_eq_valueIdx]
  exact Routing.gather_row _ rfl rfl rfl rfl rfl q (wrapFlat i) p f b
    (by rw [← ix2_eq_valueIdx]; exact wrapFlat_apply i p b h 0) (by omega)

/-- Taking a hidden row at a node number is that row. -/
theorem takeHidden_apply (q : FVec Ideal S10000x128 .f32) (i : IVec S320000 32) (p : Fin 320000) (b : Fin 10000)
    (h : i (ix1 p) = BitVec.ofNat 32 b.val) (f : Fin 128) : takeHidden q i (ix2 p f) = q (ix2 b f) := by
  pointwise [takeHidden]
  rw [inTable_apply i p b h, ValueIdx.select_one, ix2_eq_valueIdx, ix2_eq_valueIdx]
  exact Routing.gather_row _ rfl rfl rfl rfl rfl q (wrapFlat i) p f b
    (by rw [← ix2_eq_valueIdx]; exact wrapFlat_apply i p b h 0) (by omega)

/-- Taking a row of the adjacency table at a node number is that row. -/
theorem takeAdj_apply (q : IVec S10000x32 32) (i : IVec S320000 32) (p : Fin 320000) (b : Fin 10000)
    (h : i (ix1 p) = BitVec.ofNat 32 b.val) (f : Fin 32) : takeAdj q i (ix2 p f) = q (ix2 b f) := by
  pointwise [takeAdj]
  rw [inTable_apply i p b h, ValueIdx.select_one, ix2_eq_valueIdx, ix2_eq_valueIdx]
  exact Routing.gather_row _ rfl rfl rfl rfl rfl q (wrapFlat i) p f b
    (by rw [← ix2_eq_valueIdx]; exact wrapFlat_apply i p b h 0) (by omega)

/-- The long index column holds the given node number unchanged. -/
theorem wrapLong_apply (i : IVec S10240000 32) (p : Fin 10240000) (b : Fin 10000)
    (h : i (ix1 p) = BitVec.ofNat 32 b.val) (z : Fin 1) : wrapLong i (ix2 p z) = BitVec.ofNat 32 b.val := by
  pointwise [wrapLong]
  rw [h]
  exact wrap_word _ _ (by have := b.isLt; omega)

/-- A node number of the long list lies in the table. -/
theorem inTableLong_apply (i : IVec S10240000 32) (p : Fin 10240000) (b : Fin 10000)
    (h : i (ix1 p) = BitVec.ofNat 32 b.val) : inTableLong (wrapLong i) (ix1 p) = 1#1 := by
  pointwise [inTableLong]
  refine fold_andi_one _ ?_
  rw [wrapLong_apply i p b h]
  exact inside_word _ 9999 (by have := b.isLt; omega) (by omega)

/-- Taking a score at a node number is that node's score. -/
theorem takeScore_apply (la : FVec Ideal S10000 .f32) (i : IVec S10240000 32) (p : Fin 10240000) (b : Fin 10000)
    (h : i (ix1 p) = BitVec.ofNat 32 b.val) : takeScore la i (ix1 p) = la (ix1 b) := by
  pointwise [takeScore]
  rw [inTableLong_apply i p b h, ValueIdx.select_one, ix1_eq_valueIdx, ix1_eq_valueIdx]
  exact Routing.gather_take1 _ rfl rfl rfl rfl la (wrapLong i) p b
    (by rw [← ix2_eq_valueIdx]; exact wrapLong_apply i p b h 0) (by omega)

/-- The position array holds the given position unchanged. -/
theorem wrapBest_apply (o : IVec S10000x32 32) (n : Fin 10000) (k : Fin 32) (b : Fin 1024)
    (h : o (ix2 n k) = BitVec.ofNat 32 b.val) (z : Fin 1) : wrapBest o (ix3 n k z) = BitVec.ofNat 32 b.val := by
  pointwise [wrapBest]
  rw [h]
  exact wrap_word _ _ (by have := b.isLt; omega)

/-- A position of a row lies in the row. -/
theorem inRow_apply (o : IVec S10000x32 32) (n : Fin 10000) (k : Fin 32) (b : Fin 1024)
    (h : o (ix2 n k) = BitVec.ofNat 32 b.val) : inRow (wrapBest o) (ix2 n k) = 1#1 := by
  pointwise [inRow]
  refine fold_andi_one _ ?_
  rw [wrapBest_apply o n k b h]
  exact inside_word _ 1023 (by have := b.isLt; omega) (by omega)

/-- The neighbour standing at a position of a row is that entry of the row. -/
theorem pick_apply (nb : IVec S10000x1024 32) (o : IVec S10000x32 32) (n : Fin 10000) (k : Fin 32) (b : Fin 1024)
    (h : o (ix2 n k) = BitVec.ofNat 32 b.val) : pick nb o (ix2 n k) = nb (ix2 n b) := by
  pointwise [pick]
  rw [inRow_apply o n k b h, ValueIdx.select_one]
  exact gather_along _ nb (wrapBest o) n k b (wrapBest_apply o n k b h 0) (by omega)

end Cert.Attention
-- ==== Proof.KernelValues.lean ====
module

public import proofs.«01_k».proof.Proof.Softmax
public import proofs.«01_k».proof.Proof.Takes

/-!
# The kernel's results as sums over the receptive field

When every entry of the receptive field and of the adjacency table names a node, the stages of the kernel's host
operations read, entry by entry, as formulas over those node numbers.
-/

@[expose] public section

set_option maxRecDepth 8192

noncomputable section

namespace Cert.Attention

open Idealize.ShloMosaic
open Cert.KernelIdeal Cert.KernelIdeal.Gen Cert.KernelIdeal.Tail

/-! ## The formulas -/

/-- A number below zero is multiplied by one fifth. -/
def leakyNum (a : EReal) : EReal := if 0 ≤ a then a else Ideal.ofBits FTy.f32 0x3E4CCCCD#32 * a

/-- The attention of node `n` to the `r`-th node of its receptive field. -/
def attn (node : Fin 10000 → Fin 32 → Fin 10000) (key query : FVec Ideal S10000x16 .f32) (n : Fin 10000)
    (r : Fin 32) : EReal :=
  leakyNum (∑ d, key (ix2 n d) * query (ix2 (node n r) d))

/-- Node `n`'s weights: two softmaxes of its attention. -/
def weight (node : Fin 10000 → Fin 32 → Fin 10000) (key query : FVec Ideal S10000x16 .f32) (n : Fin 10000) :
    Fin 32 → EReal :=
  softmaxRow (softmaxRow (attn node key query n))

/-- Entry `f` of node `n` in the first result. -/
def value1 (node : Fin 10000 → Fin 32 → Fin 10000) (hid : FVec Ideal S10000x128 .f32)
    (key query : FVec Ideal S10000x16 .f32) (n : Fin 10000) (f : Fin 128) : EReal :=
  max (∑ r, weight node key query n r * hid (ix2 (node n r) f) + hid (ix2 n f)) 0

/-- The `c`-th neighbour of node `n`'s receptive field. -/
def neighbour (node adjacent : Fin 10000 → Fin 32 → Fin 10000) (n : Fin 10000) (c : Fin 1024) : Fin 10000 :=
  adjacent (node n ⟨c.val / 32, by omega⟩) ⟨c.val % 32, by omega⟩

/-- The score of the `c`-th neighbour, the last node's being the large negative number. -/
def score (la : FVec Ideal S10000x1 .f32) (nb : Fin 10000 → Fin 1024 → Fin 10000) (n : Fin 10000) (c : Fin 1024) :
    EReal :=
  if (nb n c).val = 9999 then Ideal.ofBits FTy.f32 0xF149F2CA#32 else la (ix2 (nb n c) 0)

/-- The order of a row's neighbours by falling score. -/
def bestOrder (la : FVec Ideal S10000x1 .f32) (nb : Fin 10000 → Fin 1024 → Fin 10000) (n : Fin 10000) :
    Fin 1024 → Fin 1024 :=
  rowOrder (FloatOps.cmpfTotal (F := Ideal) (φ := .f32) CmpDirection.gt) (score la nb n)

/-! ## The stages -/

/-- Whether a node number's word differs from the last node's. -/
theorem ne_last (b : Fin 10000) : IntOp.cmpi .ne (BitVec.ofNat 32 b.val) 9999#32 = if b.val = 9999 then 0#1 else 1#1 := by
  have hb := b.isLt
  by_cases h : b.val = 9999
  · rw [if_pos h, h]
    rfl
  · rw [if_neg h]
    have hne : BitVec.ofNat 32 b.val ≠ 9999#32 := fun e => h (by
      have := congrArg BitVec.toNat e
      simp only [BitVec.toNat_ofNat] at this
      omega)
    show BitVec.ofBool (BitVec.ofNat 32 b.val != 9999#32) = 1#1
    rw [bne_iff_ne.mpr hne]
    rfl

/-- The flat receptive field at the place of row `n` and column `r`. -/
theorem flat_apply (rf : IVec S10000x32 32) (n : Fin 10000) (r : Fin 32) (h : n.val * 32 + r.val < 320000) :
    shapeCast S320000 rf shapeCasts_S10000x32_S320000 (ix1 ⟨n.val * 32 + r.val, h⟩) = rf (ix2 n r) := by
  pointwise []

/-- The leaky attention at an entry. -/
theorem leaky_attention_apply (rf : IVec S10000x32 32) (node : Fin 10000 → Fin 32 → Fin 10000)
    (hrf : ∀ n r, rf (ix2 n r) = BitVec.ofNat 32 (node n r).val) (key query : FVec Ideal S10000x16 .f32)
    (n : Fin 10000) (r : Fin 32) :
    leaky (attention key (takeQuery query (shapeCast S320000 rf shapeCasts_S10000x32_S320000))) (ix2 n r)
      = attn node key query n r := by
  have h : attention key (takeQuery query (shapeCast S320000 rf shapeCasts_S10000x32_S320000)) (ix2 n r)
      = ∑ d, key (ix2 n d) * query (ix2 (node n r) d) := by
    pointwise [attention]
    refine Finset.sum_congr rfl fun d _ => congrArg _ ?_
    exact takeQuery_apply query _ _ _ ((flat_apply rf n r _).trans (hrf n r)) d
  pointwise [leaky]
  rw [h]
  rfl

/-- The weights of a row that does not name the last node. -/
theorem weights_apply (rf : IVec S10000x32 32) (node : Fin 10000 → Fin 32 → Fin 10000)
    (hrf : ∀ n r, rf (ix2 n r) = BitVec.ofNat 32 (node n r).val) (key query : FVec Ideal S10000x16 .f32)
    (n : Fin 10000) (hn : ∀ r, (node n r).val ≠ 9999) (r : Fin 32) :
    weights rf key query (ix2 n r) = weight node key query n r := by
  have h : ∀ k, maskLast rf (leaky (attention key (takeQuery query
      (shapeCast S320000 rf shapeCasts_S10000x32_S320000)))) (ix2 n k) = attn node key query n k := by
    intro k
    pointwise [maskLast]
    rw [hrf, ne_last, if_neg (hn k), ValueIdx.select_one]
    exact leaky_attention_apply rf node hrf key query n k
  unfold weights weight
  simp only [softmax_apply, h]

/-- The first result on a row that does not name the last node. -/
theorem result1_apply (rf : IVec S10000x32 32) (node : Fin 10000 → Fin 32 → Fin 10000)
    (hrf : ∀ n r, rf (ix2 n r) = BitVec.ofNat 32 (node n r).val) (hid : FVec Ideal S10000x128 .f32)
    (key query : FVec Ideal S10000x16 .f32) (n : Fin 10000) (hn : ∀ r, (node n r).val ≠ 9999) (f : Fin 128) :
    result1 rf hid key query (ix2 n f) = value1 node hid key query n f := by
  pointwise [result1]
  unfold value1
  refine congrArg (fun t => max (t + hid (ix2 n f)) 0) ?_
  refine Finset.sum_congr rfl fun r _ => ?_
  rw [weights_apply rf node hrf key query n hn r]
  refine congrArg _ ?_
  exact takeHidden_apply hid _ _ _ ((flat_apply rf n r _).trans (hrf n r)) f

/-- The neighbours at an entry. -/
theorem neighbours_apply (rf adj : IVec S10000x32 32) (node adjacent : Fin 10000 → Fin 32 → Fin 10000)
    (hrf : ∀ n r, rf (ix2 n r) = BitVec.ofNat 32 (node n r).val)
    (hadj : ∀ n r, adj (ix2 n r) = BitVec.ofNat 32 (adjacent n r).val) (n : Fin 10000) (c : Fin 1024) :
    neighbours rf adj (ix2 n c) = BitVec.ofNat 32 (neighbour node adjacent n c).val := by
  pointwise [neighbours]
  exact (takeAdj_apply adj _ _ _ ((flat_apply rf n ⟨c.val / 32, by omega⟩ _).trans (hrf n _)) _).trans (hadj _ _)

/-- The flat list of neighbours at the place of row `n` and column `c`. -/
theorem flatLong_apply (nb : IVec S10000x1024 32) (n : Fin 10000) (c : Fin 1024)
    (h : n.val * 1024 + c.val < 10240000) :
    shapeCast S10240000 nb shapeCasts_S10000x1024_S10240000 (ix1 ⟨n.val * 1024 + c.val, h⟩) = nb (ix2 n c) := by
  pointwise []

/-- The scores at an entry. -/
theorem scores_apply (la : FVec Ideal S10000x1 .f32) (w : IVec S10000x1024 32) (nb : Fin 10000 → Fin 1024 → Fin 10000)
    (hw : ∀ n c, w (ix2 n c) = BitVec.ofNat 32 (nb n c).val) (n : Fin 10000) (c : Fin 1024) :
    scores (shapeCast S10000 la shapeCasts_S10000x1_S10000) w (ix2 n c) = score la nb n c := by
  pointwise [scores]
  rw [takeScore_apply _ _ _ _ ((flatLong_apply w n c _).trans (hw n c)), hw, ne_last]
  unfold score
  by_cases h : (nb n c).val = 9999
  · rw [if_pos h, if_pos h, ValueIdx.select_zero]
  · rw [if_neg h, if_neg h, ValueIdx.select_one]
    pointwise []

/-- The positions of the best neighbours. -/
theorem best_apply (s : FVec Ideal S10000x1024 .f32) (n : Fin 10000) (k : Fin 32) :
    best s (ix2 n k) = BitVec.ofNat 32 (rowOrder (FloatOps.cmpfTotal (F := Ideal) (φ := .f32) CmpDirection.gt)
      (fun c => s (ix2 n c)) ⟨k.val, by omega⟩).val := by
  unfold best Host.topK
  pointwise []
  exact sort2_positions _ _ (fun _ _ => rfl) s _ (fun _ _ => rfl) n _

/-- The second layer of the second result. -/
theorem result2_apply (rf0 : IVec S1x10000x32 32) (rf adj : IVec S10000x32 32) (la : FVec Ideal S10000x1 .f32)
    (node adjacent : Fin 10000 → Fin 32 → Fin 10000)
    (hrf : ∀ n r, rf (ix2 n r) = BitVec.ofNat 32 (node n r).val)
    (hadj : ∀ n r, adj (ix2 n r) = BitVec.ofNat 32 (adjacent n r).val) (n : Fin 10000) (k : Fin 32) :
    pick (neighbours rf adj) (best (scores (shapeCast S10000 la shapeCasts_S10000x1_S10000) (neighbours rf adj)))
        (ix2 n k)
      = BitVec.ofNat 32 (neighbour node adjacent n
          (bestOrder la (neighbour node adjacent) n ⟨k.val, by omega⟩)).val := by
  have hnb := neighbours_apply rf adj node adjacent hrf hadj
  rw [pick_apply _ _ n k _ (best_apply _ n k), hnb]
  simp only [scores_apply la _ _ hnb]
  rfl

end Cert.Attention
-- ==== Proof.ReferenceFirst.lean ====
module

public import proofs.«01_k».proof.Proof.KernelValues
public import proofs.«01_k».proof.Proof.Gen.ReferenceIdeal.Run

/-!
# What the reference computes for its first result

The stages of the reference's first result as functions of the arrays they read, and their entries.  The reference
sorts each node's receptive field by its weights before it sums.  The sum does not depend on the order, so its first
result is the same formula as the kernel's.
-/

@[expose] public section

set_option maxRecDepth 8192

noncomputable section

namespace Cert.ReferenceIdeal.Stages

open Idealize.ShloMosaic Idealize.ShloMosaic.TcCoe
open Idealize.ShloMosaic.StableHlo
open Cert.ReferenceIdeal Cert.ReferenceIdeal.Gen
open Cert.Attention
open Cert.KernelIdeal.Tail (takeQuery takeHidden takeAdj expRows normRows)

/-! ## The stages -/

/-- The dot product of each node's key with the queries of its receptive field, as a flat list. -/
def attention (key : FVec Ideal S10000x16 .f32) (qg : FVec Ideal S320000x16 .f32) : FVec Ideal S320000 .f32 :=
  Host.reduceAdd (shapeCast S320000x16 (mulf (broadcastInDim S10000x32x16 ![0, 1, 2]
      bcast_S10000x1x16_S10000x32x16_0_1_2 (shapeCast S10000x1x16 key shapeCasts_S10000x16_S10000x1x16))
      (shapeCast S10000x32x16 qg shapeCasts_S320000x16_S10000x32x16))
      shapeCasts_S10000x32x16_S320000x16) (constant S_ .f32 0x00000000#32) reducesTo_S320000x16_S320000_d1 h_S_

/-- An entry below zero is multiplied by one fifth. -/
def leaky (a : FVec Ideal S320000 .f32) : FVec Ideal S320000 .f32 :=
  select (cmpf .oge a (broadcastInDim S320000 ![] bcast_S_S320000 (constant S_ .f32 0x00000000#32))) a
    (mulf (broadcastInDim S320000 ![] bcast_S_S320000 (constant S_ .f32 0x3E4CCCCD#32)) a)

/-- The least entry minus one thousand. -/
def maskNum (a : FVec Ideal S320000 .f32) : FVec Ideal S_ .f32 :=
  subf (Host.reduce FloatOps.minimumf a (constant S_ .f32 0x7F800000#32) reducesTo_S320000_S_d0 h_S_)
    (constant S_ .f32 0x447A0000#32)

/-- Entries whose receptive field node is the last node are replaced by the least entry minus one thousand. -/
def mask (rf : IVec S10000x32 32) (a : FVec Ideal S320000 .f32) : FVec Ideal S10000x32 .f32 :=
  select (cmpi .ne rf (broadcastInDim S10000x32 ![] bcast_S_S10000x32 (constantI S_ 32 9999#32)))
    (shapeCast S10000x32 a shapeCasts_S320000_S10000x32)
    (broadcastInDim S10000x32 ![] bcast_S_S10000x32 (maskNum a))

/-- The masked attention. -/
def masked (rf : IVec S10000x32 32) (key query : FVec Ideal S10000x16 .f32) : FVec Ideal S10000x32 .f32 :=
  mask rf (leaky (attention key (takeQuery query (shapeCast S320000 rf shapeCasts_S10000x32_S320000))))

/-- The positions of each row's weights in falling order. -/
def positions (w : FVec Ideal S10000x32 .f32) : IVec S10000x32 32 :=
  (Host.sort2 S10000x32 1 (comparator_f32_i32_d1 (F := Ideal)) (Host.negf w) (iotaInDim S10000x32 32 1)).2

/-- Positions with a negative one counted from the end of the row, with a trailing axis of length one. -/
def wrapRow (o : IVec S10000x32 32) : IVec S10000x32x1 32 :=
  shapeCast S10000x32x1 (select (cmpi .slt o (broadcastInDim S10000x32 ![] bcast_S_S10000x32 (constantI S_ 32 0#32)))
    (addi o (broadcastInDim S10000x32 ![] bcast_S_S10000x32 (constantI S_ 32 32#32))) o) shapeCasts_S10000x32_S10000x32x1

/-- Which positions lie in `0, …, 31`. -/
def inRow (j : IVec S10000x32x1 32) : IVec S10000x32 1 :=
  Host.reduce IntOp.andi (andi (cmpi .sge j (broadcastInDim S10000x32x1 ![] bcast_S_S10000x32x1 (constantI S_ 32 0#32)))
    (cmpi .sle j (broadcastInDim S10000x32x1 ![0, 1, 2] bcast_S1x1x1_S10000x32x1_0_1_2
      (broadcastInDim S1x1x1 ![2] bcast_S1_S1x1x1_2 (constantI S1 32 31#32)))))
    (constantI S_ 1 1#1) reducesTo_S10000x32x1_S10000x32_d2 h_S_

/-- The weights standing at given positions of each row. -/
def sortRow (w : FVec Ideal S10000x32 .f32) (o : IVec S10000x32 32) : FVec Ideal S10000x32 .f32 :=
  select (inRow (wrapRow o)) (Host.gather gather_S10000x32_S10000x32x1_S10000x32_n_1_0_0_1_2_11 w (wrapRow o))
    (broadcastInDim S10000x32 ![] bcast_S_S10000x32 (constant S_ .f32 0x7FC00000#32))

/-- Positions in the rows as positions in the flat list. -/
def flatten (o : IVec S10000x32 32) : IVec S320000 32 :=
  shapeCast S320000 (addi o (broadcastInDim S10000x32 ![0, 1] bcast_S10000x1_S10000x32_0_1
    (broadcastInDim S10000x1 ![0] bcast_S10000_S10000x1_0 (addi (broadcastInDim S10000 ![] bcast_S_S10000 (constantI S_ 32 0#32))
      (muli (broadcastInDim S10000 ![] bcast_S_S10000 (constantI S_ 32 32#32)) (iotaInDim S10000 32 0))))))
    shapeCasts_S10000x32_S320000

/-- Positions of the flat list with a negative one counted from its end, as a column. -/
def wrapList (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 320000#32))) i)

/-- Which positions lie in the flat list. -/
def inList (j : IVec S320000x1 32) : IVec S320000 1 :=
  Host.reduce IntOp.andi (andi (cmpi .sge j (broadcastInDim S320000x1 ![] bcast_S_S320000x1 (constantI S_ 32 0#32)))
    (cmpi .sle j (broadcastInDim S320000x1 ![0, 1] bcast_S1x1_S320000x1_0_1
      (broadcastInDim S1x1 ![1] bcast_S1_S1x1_1 (constantI S1 32 319999#32)))))
    (constantI S_ 1 1#1) reducesTo_S320000x1_S320000_d1 h_S_

/-- The entries of the flat receptive field standing at given positions. -/
def takeList (x i : IVec S320000 32) : IVec S320000 32 :=
  select (inList (wrapList i)) (Host.gather gather_S320000_S320000x1_S320000_n_0_n_n_0_1_1 x (wrapList i))
    (broadcastInDim S320000 ![] bcast_S_S320000 (constantI S_ 32 2147483648#32))

/-- The hidden rows of a flat list of nodes summed with weights, plus each node's own row, negative entries replaced by
zero. -/
def sumRows (w : FVec Ideal S10000x32 .f32) (hid : FVec Ideal S10000x128 .f32) (i : IVec S320000 32) :
    FVec Ideal S10000x128 .f32 :=
  maximumf (addf (Host.reduceAdd (mulf (broadcastInDim S10000x32x128 ![0, 1, 2] bcast_S10000x32x1_S10000x32x128_0_1_2
      (broadcastInDim S10000x32x1 ![0, 1] bcast_S10000x32_S10000x32x1_0_1 w))
      (shapeCast S10000x32x128 (takeHidden (shapeCast S10000x128 (broadcastInDim S1x10000x128 ![1, 2]
        bcast_S10000x128_S1x10000x128_1_2 hid) shapeCasts_S1x10000x128_S10000x128) i)
        shapeCasts_S320000x128_S10000x32x128))
      (constant S_ .f32 0x00000000#32) reducesTo_S10000x32x128_S10000x128_d1 h_S_) hid)
    (broadcastInDim S10000x128 ![] bcast_S_S10000x128 (constant S_ .f32 0x00000000#32))

/-- The reference's first result from the first softmax's weights on. -/
def fromWeights (w : FVec Ideal S10000x32 .f32) (rf : IVec S10000x32 32) (hid : FVec Ideal S10000x128 .f32) :
    FVec Ideal S10000x128 .f32 :=
  sumRows (normRows (expRows (sortRow w (positions w)))) hid
    (takeList (shapeCast S320000 rf shapeCasts_S10000x32_S320000) (flatten (positions w)))

/-- The reference's first result. -/
def result1 (rf : IVec S10000x32 32) (hid : FVec Ideal S10000x128 .f32) (key query : FVec Ideal S10000x16 .f32) :
    FVec Ideal S10000x128 .f32 :=
  fromWeights (normRows (expRows (masked rf key query))) rf hid

/-! ## Their entries -/

/-- The masked attention on a row that does not name the last node. -/
theorem masked_apply (rf : IVec S10000x32 32) (node : Fin 10000 → Fin 32 → Fin 10000)
    (hrf : ∀ n r, rf (ix2 n r) = BitVec.ofNat 32 (node n r).val) (key query : FVec Ideal S10000x16 .f32)
    (n : Fin 10000) (hn : ∀ r, (node n r).val ≠ 9999) (r : Fin 32) :
    masked rf key query (ix2 n r) = attn node key query n r := by
  have hlt : n.val * 32 + r.val < 320000 := by omega
  have h : attention key (takeQuery query (shapeCast S320000 rf shapeCasts_S10000x32_S320000))
      (ix1 ⟨n.val * 32 + r.val, hlt⟩) = ∑ d, key (ix2 n d) * query (ix2 (node n r) d) := by
    pointwise [attention]
    refine Finset.sum_congr rfl fun d _ => congrArg _ ?_
    exact takeQuery_apply query _ _ _ ((flat_apply rf n r _).trans (hrf n r)) d
  unfold masked
  generalize attention key (takeQuery query (shapeCast S320000 rf shapeCasts_S10000x32_S320000)) = a at h
  pointwise [mask]
  rw [hrf, ne_last, if_neg (hn r), ValueIdx.select_one]
  pointwise [leaky]
  rw [h]
  rfl

/-- How the reference's sort compares two entries. -/
def before (l r : EReal) : BitVec 1 := comparator_f32_i32_d1 (F := Ideal) (l, 0#32) (r, 0#32)

/-- The comparison looks at the entries alone. -/
theorem before_eq (l r : EReal × BitVec 32) : comparator_f32_i32_d1 (F := Ideal) l r = before l.1 r.1 := rfl

/-- The order of node `n`'s receptive field in the reference. -/
def order (w : FVec Ideal S10000x32 .f32) (n : Fin 10000) : Fin 32 ≃ Fin 32 :=
  rowPerm before fun k => Host.negf w (ix2 n k)

/-- The sorted positions. -/
theorem positions_apply (w : FVec Ideal S10000x32 .f32) (n : Fin 10000) (k : Fin 32) :
    positions w (ix2 n k) = BitVec.ofNat 32 (order w n k).val :=
  sort2_positions (N := 10000) (K := 32) (comparator_f32_i32_d1 (F := Ideal)) before before_eq (Host.negf w)
    (iotaInDim S10000x32 32 1) (fun _ _ => rfl) n k

/-- A position of a row is not counted from the end. -/
theorem wrapRow_apply (o : IVec S10000x32 32) (n : Fin 10000) (k : Fin 32) (b : Fin 32)
    (h : o (ix2 n k) = BitVec.ofNat 32 b.val) (z : Fin 1) : wrapRow o (ix3 n k z) = BitVec.ofNat 32 b.val := by
  pointwise [wrapRow]
  rw [h]
  exact wrap_word _ _ (by have := b.isLt; omega)

/-- The weight standing at a position of a row is that entry of the row. -/
theorem sortRow_apply (w : FVec Ideal S10000x32 .f32) (o : IVec S10000x32 32) (n : Fin 10000) (k : Fin 32) (b : Fin 32)
    (h : o (ix2 n k) = BitVec.ofNat 32 b.val) : sortRow w o (ix2 n k) = w (ix2 n b) := by
  have hm : inRow (wrapRow o) (ix2 n k) = 1#1 := by
    pointwise [inRow]
    refine fold_andi_one _ ?_
    rw [wrapRow_apply o n k b h]
    exact inside_word _ 31 (by have := b.isLt; omega) (by omega)
  pointwise [sortRow]
  rw [hm, ValueIdx.select_one]
  exact gather_along _ w (wrapRow o) n k b (wrapRow_apply o n k b h 0) (by omega)

/-- A position of a row as a position of the flat list. -/
theorem flatten_apply (o : IVec S10000x32 32) (n : Fin 10000) (k : Fin 32) (b : Nat)
    (h : o (ix2 n k) = BitVec.ofNat 32 b) (hlt : n.val * 32 + k.val < 320000) :
    flatten o (ix1 ⟨n.val * 32 + k.val, hlt⟩) = BitVec.ofNat 32 (n.val * 32 + b) := by
  pointwise [flatten]
  rw [h]
  exact row_word n.val 32 b

/-- The entry of the flat list standing at a position of it. -/
theorem takeList_apply (x i : IVec S320000 32) (p b : Fin 320000) (h : i (ix1 p) = BitVec.ofNat 32 b.val) :
    takeList x i (ix1 p) = x (ix1 b) := by
  have hw : ∀ z : Fin 1, wrapList i (ix2 p z) = BitVec.ofNat 32 b.val := by
    intro z
    pointwise [wrapList]
    rw [h]
    exact wrap_word _ _ (by have := b.isLt; omega)
  have hm : inList (wrapList i) (ix1 p) = 1#1 := by
    pointwise [inList]
    refine fold_andi_one _ ?_
    rw [hw]
    exact inside_word _ 319999 (by have := b.isLt; omega) (by omega)
  pointwise [takeList]
  rw [hm, ValueIdx.select_one, ix1_eq_valueIdx, ix1_eq_valueIdx]
  exact Routing.gather_take1 _ rfl rfl rfl rfl x (wrapList i) p b (by rw [← ix2_eq_valueIdx]; exact hw 0) (by omega)

/-- The weighted sum at an entry of a row whose nodes are known. -/
theorem sumRows_apply (w : FVec Ideal S10000x32 .f32) (hid : FVec Ideal S10000x128 .f32) (i : IVec S320000 32)
    (n : Fin 10000) (b : Fin 32 → Fin 10000)
    (h : ∀ (k : Fin 32) (hlt : n.val * 32 + k.val < 320000), i (ix1 ⟨n.val * 32 + k.val, hlt⟩) = BitVec.ofNat 32 (b k).val)
    (f : Fin 128) : sumRows w hid i (ix2 n f) = max (∑ k, w (ix2 n k) * hid (ix2 (b k) f) + hid (ix2 n f)) 0 := by
  pointwise [sumRows]
  refine congrArg (fun t => max (t + hid (ix2 n f)) 0) ?_
  refine Finset.sum_congr rfl fun k _ => congrArg _ ?_
  rw [takeHidden_apply _ _ _ _ (h k _) f]
  pointwise []

/-- The reference's first result on a row that does not name the last node. -/
theorem result1_apply (rf : IVec S10000x32 32) (node : Fin 10000 → Fin 32 → Fin 10000)
    (hrf : ∀ n r, rf (ix2 n r) = BitVec.ofNat 32 (node n r).val) (hid : FVec Ideal S10000x128 .f32)
    (key query : FVec Ideal S10000x16 .f32) (n : Fin 10000) (hn : ∀ r, (node n r).val ≠ 9999) (f : Fin 128) :
    result1 rf hid key query (ix2 n f) = value1 node hid key query n f := by
  have hw : ∀ k, normRows (expRows (masked rf key query)) (ix2 n k) = softmaxRow (attn node key query n) k := by
    intro k
    rw [softmax_apply]
    simp only [masked_apply rf node hrf key query n hn]
  unfold result1
  generalize normRows (expRows (masked rf key query)) = w at hw ⊢
  have hs : (fun k => sortRow w (positions w) (ix2 n k)) = fun k => softmaxRow (attn node key query n) (order w n k) := by
    funext k
    rw [sortRow_apply w _ n k _ (positions_apply w n k), hw]
  unfold fromWeights
  rw [sumRows_apply _ hid _ n (fun k => node n (order w n k)) ?_ f]
  · unfold value1 weight
    rw [← Equiv.sum_comp (order w n) (fun r => softmaxRow (softmaxRow (attn node key query n)) r * hid (ix2 (node n r) f))]
    refine congrArg (fun t => max (t + hid (ix2 n f)) 0) ?_
    refine Finset.sum_congr rfl fun k _ => congrArg (fun t => t * hid (ix2 (node n (order w n k)) f)) ?_
    rw [softmax_apply, hs]
    exact softmaxRow_comp (softmaxRow (attn node key query n)) (order w n) k
  · intro k hlt
    have hb : n.val * 32 + (order w n k).val < 320000 := by have := (order w n k).isLt; omega
    rw [takeList_apply _ _ _ ⟨_, hb⟩ (flatten_apply _ n k _ (positions_apply w n k) hlt), flat_apply rf n _ hb, hrf]

end Cert.ReferenceIdeal.Stages
-- ==== Proof.ReferenceSecond.lean ====
module

public import proofs.«01_k».proof.Proof.KernelValues
public import proofs.«01_k».proof.Proof.Gen.ReferenceIdeal.Run

/-!
# What the reference computes for its second result

The stages of the reference's second result as functions of the arrays they read, and their entries.  The reference
orders a node's neighbours by the sum of the neighbour's left score and the node's right score, the kernel by the left
score alone.  When the right scores are finite and the left scores lie above the kernel's mask number, the two orders
are the same.
-/

@[expose] public section

set_option maxRecDepth 8192

noncomputable section

namespace Cert.ReferenceIdeal.Stages

open Idealize.ShloMosaic Idealize.ShloMosaic.TcCoe
open Idealize.ShloMosaic.StableHlo
open Cert.ReferenceIdeal Cert.ReferenceIdeal.Gen
open Cert.Attention
open Cert.KernelIdeal.Tail (takeAdj takeScore)

/-! ## The stages -/

/-- The flat list of neighbours. -/
def nbList (rf adj : IVec S10000x32 32) : IVec S10240000 32 :=
  shapeCast S10240000 (takeAdj adj (shapeCast S320000 rf shapeCasts_S10000x32_S320000)) shapeCasts_S320000x32_S10240000

/-- A score of every node: a product of its hidden row plus a number. -/
def nodeScore (hid : FVec Ideal S10000x128 .f32) (w : FVec Ideal S128x1 .f32) (b : FVec Ideal S1 .f32) :
    FVec Ideal S10000 .f32 :=
  addf (shapeCast S10000 (Host.dotGeneral dot_S10000x128_S128x1_S10000x1_1_0_0_1_n_n none hid w)
    shapeCasts_S10000x1_S10000) (broadcastInDim S10000 ![0] bcast_S1_S10000_0 b)

/-- Every node's right score at each of its 1024 places. -/
def rightRows (r : FVec Ideal S10000 .f32) : FVec Ideal S10000x1024 .f32 :=
  broadcastInDim S10000x1024 ![0, 1] bcast_S10000x1_S10000x1024_0_1
    (broadcastInDim S10000x1 ![0] bcast_S10000_S10000x1_0 r)

/-- An array with 1024 columns as a flat list. -/
def listOf (x : FVec Ideal S10000x1024 .f32) : FVec Ideal S10240000 .f32 :=
  shapeCast S10240000 x shapeCasts_S10000x1024_S10240000

/-- The sum of every neighbour's left score and its node's right score. -/
def sums (l r : FVec Ideal S10000 .f32) (nb : IVec S10240000 32) : FVec Ideal S10000x1024 .f32 :=
  shapeCast S10000x1024 (addf (takeScore l nb) (listOf (rightRows r))) shapeCasts_S10240000_S10000x1024

/-- The least sum minus one. -/
def least (s : FVec Ideal S10000x1024 .f32) : FVec Ideal S_ .f32 :=
  subf (Host.reduce FloatOps.minimumf s (constant S_ .f32 0x7F800000#32) reducesTo_S10000x1024_S_d0_1 h_S_)
    (constant S_ .f32 0x3F800000#32)

/-- The negated sums, the last node's replaced by a given number before the sign changes. -/
def keys (nb : IVec S10240000 32) (s : FVec Ideal S10000x1024 .f32) (z : FVec Ideal S_ .f32) :
    FVec Ideal S10000x1024 .f32 :=
  Host.negf (select (cmpi .ne (shapeCast S10000x1024 nb shapeCasts_S10240000_S10000x1024)
    (broadcastInDim S10000x1024 ![] bcast_S_S10000x1024 (constantI S_ 32 9999#32))) s
    (broadcastInDim S10000x1024 ![] bcast_S_S10000x1024 z))

/-- The positions of each row's 32 least keys. -/
def firsts (x : FVec Ideal S10000x1024 .f32) : IVec S10000x32 32 :=
  extractStridedSlice S10000x32 ![0, 0]
    ((Host.sort2 S10000x1024 1 (comparator_f32_i32_d1 (F := Ideal)) x (iotaInDim S10000x1024 32 1)).2)
    slices_S10000x1024_S10000x32_0_0

/-- Positions in the rows as positions in the flat list of neighbours. -/
def flattenLong (o : IVec S10000x32 32) : IVec S320000 32 :=
  shapeCast S320000 (addi o (broadcastInDim S10000x32 ![0, 1] bcast_S10000x1_S10000x32_0_1
    (broadcastInDim S10000x1 ![0] bcast_S10000_S10000x1_0 (addi (broadcastInDim S10000 ![] bcast_S_S10000 (constantI S_ 32 0#32))
      (muli (broadcastInDim S10000 ![] bcast_S_S10000 (constantI S_ 32 1024#32)) (iotaInDim S10000 32 0))))))
    shapeCasts_S10000x32_S320000

/-- Positions of the flat list of neighbours with a negative one counted from its end, as a column. -/
def wrapNb (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 10240000#32))) i)

/-- Which positions lie in the flat list of neighbours. -/
def inNb (j : IVec S320000x1 32) : IVec S320000 1 :=
  Host.reduce IntOp.andi (andi (cmpi .sge j (broadcastInDim S320000x1 ![] bcast_S_S320000x1 (constantI S_ 32 0#32)))
    (cmpi .sle j (broadcastInDim S320000x1 ![0, 1] bcast_S1x1_S320000x1_0_1
      (broadcastInDim S1x1 ![1] bcast_S1_S1x1_1 (constantI S1 32 10239999#32)))))
    (constantI S_ 1 1#1) reducesTo_S320000x1_S320000_d1 h_S_

/-- The neighbours standing at given positions of the flat list. -/
def takeNb (x : IVec S10240000 32) (i : IVec S320000 32) : IVec S320000 32 :=
  select (inNb (wrapNb i)) (Host.gather gather_S10240000_S320000x1_S320000_n_0_n_n_0_1_1 x (wrapNb i))
    (broadcastInDim S320000 ![] bcast_S_S320000 (constantI S_ 32 2147483648#32))

/-- The chosen neighbours for given keys. -/
def chosen (nb : IVec S10240000 32) (x : FVec Ideal S10000x1024 .f32) : IVec S10000x32 32 :=
  shapeCast S10000x32 (takeNb nb (flattenLong (firsts x))) shapeCasts_S320000_S10000x32

/-- The second layer of the reference's second result. -/
def layer2 (rf adj : IVec S10000x32 32) (l r : FVec Ideal S10000 .f32) : IVec S10000x32 32 :=
  chosen (nbList rf adj) (keys (nbList rf adj) (sums l r (nbList rf adj)) (least (sums l r (nbList rf adj))))

/-! ## Their entries -/

/-- A node's score is an entry of a product plus a number. -/
theorem nodeScore_apply (hid : FVec Ideal S10000x128 .f32) (w : FVec Ideal S128x1 .f32) (b : FVec Ideal S1 .f32)
    (h : S1.numel = (⟨2, ![1, 1]⟩ : Shape).numel) (n : Fin 10000) :
    nodeScore hid w b (ix1 n) = affine hid w (shapeCast ⟨2, ![1, 1]⟩ b h) (ix2 n 0) := by
  pointwise [nodeScore, affine]

/-- The neighbours at a place of the flat list. -/
theorem nbList_apply (rf adj : IVec S10000x32 32) (node adjacent : Fin 10000 → Fin 32 → Fin 10000)
    (hrf : ∀ n r, rf (ix2 n r) = BitVec.ofNat 32 (node n r).val)
    (hadj : ∀ n r, adj (ix2 n r) = BitVec.ofNat 32 (adjacent n r).val) (n : Fin 10000) (c : Fin 1024)
    (hlt : n.val * 1024 + c.val < 10240000) :
    nbList rf adj (ix1 ⟨n.val * 1024 + c.val, hlt⟩) = BitVec.ofNat 32 (neighbour node adjacent n c).val := by
  have hq32 : c.val / 32 < 32 := by omega
  have hr32 : c.val % 32 < 32 := by omega
  have hk : n.val * 32 + c.val / 32 < 320000 := by omega
  have key : ∀ (p : Fin 320000) (q : Fin 32), p.val = n.val * 32 + c.val / 32 → q.val = c.val % 32 →
      takeAdj adj (shapeCast S320000 rf shapeCasts_S10000x32_S320000) (ix2 p q)
        = BitVec.ofNat 32 (neighbour node adjacent n c).val := by
    intro p q hp hq
    rw [show p = ⟨n.val * 32 + (⟨c.val / 32, hq32⟩ : Fin 32).val, hk⟩ from Fin.ext hp,
      show q = ⟨c.val % 32, hr32⟩ from Fin.ext hq]
    exact (takeAdj_apply adj _ _ _ ((flat_apply rf n ⟨c.val / 32, hq32⟩ hk).trans (hrf n _)) _).trans (hadj _ _)
  pointwise [nbList]
  exact key _ _ (show (n.val * 1024 + c.val) / 32 = _ by omega) (show (n.val * 1024 + c.val) % 32 = _ by omega)

/-- The flat list at the place of row `n` and column `c`. -/
theorem listOf_apply (x : FVec Ideal S10000x1024 .f32) (n : Fin 10000) (c : Fin 1024)
    (hlt : n.val * 1024 + c.val < 10240000) : listOf x (ix1 ⟨n.val * 1024 + c.val, hlt⟩) = x (ix2 n c) := by
  pointwise [listOf]

/-- The right scores at an entry. -/
theorem rightRows_apply (r : FVec Ideal S10000 .f32) (n : Fin 10000) (c : Fin 1024) :
    rightRows r (ix2 n c) = r (ix1 n) := by
  pointwise [rightRows]

/-- A sum of two flat lists as an array with 1024 columns. -/
theorem addList_apply (x y : FVec Ideal S10240000 .f32) (n : Fin 10000) (c : Fin 1024)
    (hlt : n.val * 1024 + c.val < 10240000) :
    shapeCast S10000x1024 (addf x y) shapeCasts_S10240000_S10000x1024 (ix2 n c)
      = (x (ix1 ⟨n.val * 1024 + c.val, hlt⟩) + y (ix1 ⟨n.val * 1024 + c.val, hlt⟩) : EReal) := by
  pointwise []

/-- The sums at an entry. -/
theorem sums_apply (l r : FVec Ideal S10000 .f32) (nb : IVec S10240000 32) (b : Fin 10000 → Fin 1024 → Fin 10000)
    (h : ∀ (n : Fin 10000) (c : Fin 1024) (hlt : n.val * 1024 + c.val < 10240000),
      nb (ix1 ⟨n.val * 1024 + c.val, hlt⟩) = BitVec.ofNat 32 (b n c).val) (n : Fin 10000) (c : Fin 1024) :
    sums l r nb (ix2 n c) = (l (ix1 (b n c)) + r (ix1 n) : EReal) := by
  have hlt : n.val * 1024 + c.val < 10240000 := by omega
  unfold sums
  rw [addList_apply _ _ n c hlt, listOf_apply, rightRows_apply, takeScore_apply l nb _ _ (h n c hlt)]

/-- The keys at an entry. -/
theorem keys_apply (nb : IVec S10240000 32) (s : FVec Ideal S10000x1024 .f32) (z : FVec Ideal S_ .f32)
    (b : Fin 10000 → Fin 1024 → Fin 10000)
    (h : ∀ (n : Fin 10000) (c : Fin 1024) (hlt : n.val * 1024 + c.val < 10240000),
      nb (ix1 ⟨n.val * 1024 + c.val, hlt⟩) = BitVec.ofNat 32 (b n c).val) (n : Fin 10000) (c : Fin 1024) :
    keys nb s z (ix2 n c) = -(if (b n c).val = 9999 then z ix0 else s (ix2 n c)) := by
  pointwise [keys]
  rw [h, ne_last]
  by_cases hc : (b n c).val = 9999
  · rw [if_pos hc, if_pos hc, ValueIdx.select_zero]
  · rw [if_neg hc, if_neg hc, ValueIdx.select_one]

/-- A fold of minimums is at most its start and every number it runs over. -/
theorem foldl_min_le {ι : Type} (f : ι → EReal) (L : List ι) (z : EReal) :
    L.foldl (fun r n => min r (f n)) z ≤ z ∧ ∀ i ∈ L, L.foldl (fun r n => min r (f n)) z ≤ f i := by
  induction L generalizing z with
  | nil => exact ⟨le_refl _, fun i hi => absurd hi List.not_mem_nil⟩
  | cons a L ih =>
    obtain ⟨h0, h1⟩ := ih (min z (f a))
    refine ⟨h0.trans (min_le_left _ _), fun i hi => ?_⟩
    rcases List.mem_cons.mp hi with rfl | hi
    · exact h0.trans (min_le_right _ _)
    · exact h1 i hi

/-- The minimum of a whole array is at most each of its entries. -/
theorem reduce_min_le {s : Shape} {axes : List (Fin s.rank)} {u : Shape} (x : s.Idx → EReal) (z : u.Idx → EReal)
    (h : s.ReducesTo axes ⟨0, ![]⟩) (hu : 0 < u.numel) (i : s.Idx) (j : (⟨0, ![]⟩ : Shape).Idx) :
    Host.reduce (fun a b : EReal => min a b) x z h hu j ≤ x i := by
  have hf := (foldl_min_le (fun n => (x (s.rowMajor.symm n) : EReal))
    ((List.finRange s.numel).filter fun n => h.drop (s.rowMajor.symm n) = j) (z (Shape.Idx.first hu))).2 (s.rowMajor i)
    (List.mem_filter.mpr ⟨List.mem_finRange _, decide_eq_true (funext fun a => a.elim0)⟩)
  simp only [Equiv.symm_apply_apply] at hf
  exact hf

/-- A number at most a real number is, less one, below it. -/
theorem sub_one_lt (M x : EReal) (hm : M ≤ x) (hb : x ≠ ⊥) (ht : x ≠ ⊤) :
    M - Ideal.ofBits FTy.f32 0x3F800000#32 < x := by
  rw [Ideal.ofBits_one_f32]
  refine (EReal.sub_le_sub hm (le_refl 1)).trans_lt ?_
  lift x to ℝ using ⟨ht, hb⟩
  rw [show (1 : EReal) = ((1 : ℝ) : EReal) from rfl, ← EReal.coe_sub, EReal.coe_lt_coe_iff]
  linarith

/-- The minimum of a whole array minus one is below each of its entries that is a real number. -/
theorem min_sub_one_lt {s : Shape} {axes : List (Fin s.rank)} {u : Shape} (x : FVec Ideal s .f32) (z : FVec Ideal u .f32)
    (o : FVec Ideal ⟨0, ![]⟩ .f32) (h : s.ReducesTo axes ⟨0, ![]⟩) (hu : 0 < u.numel) (i : s.Idx)
    (j : (⟨0, ![]⟩ : Shape).Idx) (ho : o j = Ideal.ofBits FTy.f32 0x3F800000#32) (hb : x i ≠ (⊥ : EReal))
    (ht : x i ≠ (⊤ : EReal)) :
    @LT.lt EReal _ (subf (Host.reduce (FloatOps.minimumf (F := Ideal) (φ := .f32)) x z h hu) o j) (x i) := by
  have hm := reduce_min_le x z h hu i j
  have e : (subf (Host.reduce (FloatOps.minimumf (F := Ideal) (φ := .f32)) x z h hu) o j : EReal)
      = Host.reduce (fun a b : EReal => min a b) x z h hu j - Ideal.ofBits FTy.f32 0x3F800000#32 := by
    rw [← ho]
    rfl
  rw [e]
  exact sub_one_lt _ _ hm hb ht

/-- The least sum minus one is below every sum that is a real number. -/
theorem least_lt (s : FVec Ideal S10000x1024 .f32) (i : S10000x1024.Idx) (hb : s i ≠ (⊥ : EReal)) (ht : s i ≠ (⊤ : EReal))
    (j : S_.Idx) : @LT.lt EReal _ (least s j) (s i) := by
  unfold least
  exact min_sub_one_lt s _ _ reducesTo_S10000x1024_S_d0_1 h_S_ i j rfl hb ht

/-! ## The order of the neighbours -/

/-- How the reference's sort compares two entries. -/
def beforeKey (l r : EReal) : BitVec 1 := comparator_f32_i32_d1 (F := Ideal) (l, 0#32) (r, 0#32)

/-- The comparison looks at the entries alone. -/
theorem beforeKey_eq (l r : EReal × BitVec 32) : comparator_f32_i32_d1 (F := Ideal) l r = beforeKey l.1 r.1 := rfl

/-- An entry is put before another when it is smaller. -/
theorem beforeKey_lt (l r : EReal) : beforeKey l r = BitVec.ofBool (decide (l < r)) := by
  have hz : ∀ x : EReal, Scalar.select (Ideal.cmp .une x x) (Ideal.ofBits FTy.f32 0x7FC00000#32)
      (Scalar.select (Ideal.cmp .oeq x (Ideal.ofBits FTy.f32 0x00000000#32)) (Ideal.ofBits FTy.f32 0x00000000#32) x) = x := by
    intro x
    have hn : Ideal.cmp .une x x = 0#1 := by simp [Ideal.cmp]
    rw [hn, ValueIdx.select_zero]
    by_cases hx : x = Ideal.ofBits FTy.f32 0x00000000#32
    · have : Ideal.cmp .oeq x (Ideal.ofBits FTy.f32 0x00000000#32) = 1#1 := by simp [Ideal.cmp, hx]
      rw [this, ValueIdx.select_one, hx]
    · have : Ideal.cmp .oeq x (Ideal.ofBits FTy.f32 0x00000000#32) = 0#1 :=
        congrArg BitVec.ofBool (decide_eq_false hx)
      rw [this, ValueIdx.select_zero]
  show Ideal.cmp .olt (Scalar.select (Ideal.cmp .une l l) (Ideal.ofBits FTy.f32 0x7FC00000#32)
      (Scalar.select (Ideal.cmp .oeq l (Ideal.ofBits FTy.f32 0x00000000#32)) (Ideal.ofBits FTy.f32 0x00000000#32) l))
    (Scalar.select (Ideal.cmp .une r r) (Ideal.ofBits FTy.f32 0x7FC00000#32)
      (Scalar.select (Ideal.cmp .oeq r (Ideal.ofBits FTy.f32 0x00000000#32)) (Ideal.ofBits FTy.f32 0x00000000#32) r)) = _
  rw [hz, hz]
  rfl

/-- Adding the same real number to two numbers keeps their order. -/
theorem add_lt_iff (a b c : EReal) (hb : c ≠ ⊥) (ht : c ≠ ⊤) : a + c < b + c ↔ a < b := by
  lift c to ℝ using ⟨ht, hb⟩
  constructor
  · intro h
    by_contra hn
    exact absurd (add_le_add_left (not_lt.mp hn) (c : EReal)) (not_le.mpr h)
  · intro h
    exact EReal.add_lt_add_right_coe h c

/-- Two rows whose comparisons agree are ordered alike. -/
theorem rowOrder_congr {α β : Type} {K : Nat} (f : α → α → BitVec 1) (g : β → β → BitVec 1) (v : Fin K → α)
    (w : Fin K → β) (h : ∀ c d, f (v c) (v d) = g (w c) (w d)) : rowOrder f v = rowOrder g w :=
  sortedFrom_congr _ _ fun c d _ => congrArg (· == 1#1) (h c d)

/-- The reference's order of a row's neighbours is the order by falling left score. -/
theorem order_eq (la : FVec Ideal S10000x1 .f32) (b : Fin 10000 → Fin 1024 → Fin 10000) (n : Fin 10000)
    (r : EReal) (hr0 : r ≠ ⊥) (hr1 : r ≠ ⊤) (z : EReal)
    (hla : ∀ k, Ideal.ofBits FTy.f32 0xF149F2CA#32 < la (ix2 k 0) ∧ la (ix2 k 0) < (⊤ : EReal))
    (hz : ∀ c, z < la (ix2 (b n c) 0) + r) :
    rowOrder beforeKey (fun c => (-(if (b n c).val = 9999 then z else la (ix2 (b n c) 0) + r) : EReal))
      = bestOrder la b n := by
  unfold bestOrder
  refine rowOrder_congr _ _ _ _ fun c d => ?_
  rw [beforeKey_lt]
  show _ = BitVec.ofBool (decide (score la b n d < score la b n c))
  refine congrArg BitVec.ofBool (decide_eq_decide.mpr ?_)
  rw [EReal.neg_lt_neg_iff]
  unfold score
  by_cases hc : (b n c).val = 9999 <;> by_cases hd : (b n d).val = 9999
  · simp only [if_pos hc, if_pos hd, lt_self_iff_false]
  · rw [if_pos hc, if_pos hc, if_neg hd, if_neg hd]
    exact iff_of_false (lt_asymm (hz d)) (lt_asymm (hla _).1)
  · rw [if_neg hc, if_neg hc, if_pos hd, if_pos hd]
    exact iff_of_true (hz c) (hla _).1
  · rw [if_neg hc, if_neg hc, if_neg hd, if_neg hd]
    exact add_lt_iff _ _ _ hr0 hr1

/-! ## The chosen neighbours -/

/-- The positions of a row's first keys. -/
theorem firsts_apply (x : FVec Ideal S10000x1024 .f32) (n : Fin 10000) (k : Fin 32) :
    firsts x (ix2 n k) = BitVec.ofNat 32 (rowOrder beforeKey (fun c => x (ix2 n c)) ⟨k.val, by omega⟩).val := by
  refine Eq.trans ?_ (sort2_positions (N := 10000) (K := 1024) (comparator_f32_i32_d1 (F := Ideal)) beforeKey beforeKey_eq x
    (iotaInDim S10000x1024 32 1) (fun _ _ => rfl) n ⟨k.val, by omega⟩)
  unfold firsts
  generalize (Host.sort2 S10000x1024 1 (comparator_f32_i32_d1 (F := Ideal)) x (iotaInDim S10000x1024 32 1)).2 = y
  pointwise []

/-- A position of a row as a position of the flat list. -/
theorem flattenLong_apply (o : IVec S10000x32 32) (n : Fin 10000) (k : Fin 32) (q : Nat)
    (h : o (ix2 n k) = BitVec.ofNat 32 q) (hlt : n.val * 32 + k.val < 320000) :
    flattenLong o (ix1 ⟨n.val * 32 + k.val, hlt⟩) = BitVec.ofNat 32 (n.val * 1024 + q) := by
  pointwise [flattenLong]
  rw [h]
  exact row_word n.val 1024 q

/-- The neighbour standing at a position of the flat list. -/
theorem takeNb_apply (x : IVec S10240000 32) (i : IVec S320000 32) (p : Fin 320000) (q : Fin 10240000)
    (h : i (ix1 p) = BitVec.ofNat 32 q.val) : takeNb x i (ix1 p) = x (ix1 q) := by
  have hw : ∀ z : Fin 1, wrapNb i (ix2 p z) = BitVec.ofNat 32 q.val := by
    intro z
    pointwise [wrapNb]
    rw [h]
    exact wrap_word _ _ (by have := q.isLt; omega)
  have hm : inNb (wrapNb i) (ix1 p) = 1#1 := by
    pointwise [inNb]
    refine fold_andi_one _ ?_
    rw [hw]
    exact inside_word _ 10239999 (by have := q.isLt; omega) (by omega)
  pointwise [takeNb]
  rw [hm, ValueIdx.select_one, ix1_eq_valueIdx, ix1_eq_valueIdx]
  exact Routing.gather_take1 _ rfl rfl rfl rfl x (wrapNb i) p q (by rw [← ix2_eq_valueIdx]; exact hw 0) (by omega)

/-- A flat list of 320000 entries as an array with 32 columns. -/
theorem unflat_apply (x : IVec S320000 32) (n : Fin 10000) (k : Fin 32) (hlt : n.val * 32 + k.val < 320000) :
    shapeCast S10000x32 x shapeCasts_S320000_S10000x32 (ix2 n k) = x (ix1 ⟨n.val * 32 + k.val, hlt⟩) := by
  pointwise []

/-- The chosen neighbours of a node. -/
theorem chosen_apply (nb : IVec S10240000 32) (x : FVec Ideal S10000x1024 .f32) (b : Fin 10000 → Fin 1024 → Fin 10000)
    (h : ∀ (n : Fin 10000) (c : Fin 1024) (hlt : n.val * 1024 + c.val < 10240000),
      nb (ix1 ⟨n.val * 1024 + c.val, hlt⟩) = BitVec.ofNat 32 (b n c).val) (n : Fin 10000) (k : Fin 32) :
    chosen nb x (ix2 n k)
      = BitVec.ofNat 32 (b n (rowOrder beforeKey (fun c => x (ix2 n c)) ⟨k.val, by omega⟩)).val := by
  have hlt : n.val * 32 + k.val < 320000 := by omega
  have hq : n.val * 1024 + (rowOrder beforeKey (fun c => x (ix2 n c)) ⟨k.val, by omega⟩).val < 10240000 := by
    have := (rowOrder beforeKey (fun c => x (ix2 n c)) ⟨k.val, by omega⟩).isLt
    omega
  unfold chosen
  rw [unflat_apply _ n k hlt, takeNb_apply nb _ _ ⟨_, hq⟩ (flattenLong_apply _ n k _ (firsts_apply x n k) hlt), h]

/-- The second layer of the reference's second result, when the scores are as the order needs. -/
theorem layer2_apply (rf adj : IVec S10000x32 32) (l r : FVec Ideal S10000 .f32) (la : FVec Ideal S10000x1 .f32)
    (node adjacent : Fin 10000 → Fin 32 → Fin 10000)
    (hrf : ∀ n r, rf (ix2 n r) = BitVec.ofNat 32 (node n r).val)
    (hadj : ∀ n r, adj (ix2 n r) = BitVec.ofNat 32 (adjacent n r).val)
    (hl : ∀ n, l (ix1 n) = la (ix2 n 0))
    (hla : ∀ k, Ideal.ofBits FTy.f32 0xF149F2CA#32 < la (ix2 k 0) ∧ la (ix2 k 0) < (⊤ : EReal))
    (hr : ∀ n, r (ix1 n) ≠ (⊥ : EReal) ∧ r (ix1 n) ≠ (⊤ : EReal)) (n : Fin 10000) (k : Fin 32) :
    layer2 rf adj l r (ix2 n k) = BitVec.ofNat 32 (neighbour node adjacent n
      (bestOrder la (neighbour node adjacent) n ⟨k.val, by omega⟩)).val := by
  have hnb := nbList_apply rf adj node adjacent hrf hadj
  have hs : ∀ n c, sums l r (nbList rf adj) (ix2 n c) = (la (ix2 (neighbour node adjacent n c) 0) + r (ix1 n) : EReal) := by
    intro n c
    rw [sums_apply l r _ _ hnb, hl]
  unfold layer2
  rw [chosen_apply _ _ _ hnb]
  have hz : ∀ c, @LT.lt EReal _ (least (sums l r (nbList rf adj)) ix0)
      (la (ix2 (neighbour node adjacent n c) 0) + r (ix1 n)) := by
    intro c
    rw [← hs]
    refine least_lt _ _ ?_ ?_ _
    · rw [hs]
      exact fun e => (EReal.add_eq_bot_iff.mp e).elim (ne_bot_of_gt (hla _).1) (hr n).1
    · rw [hs]
      exact EReal.add_ne_top (hla _).2.ne (hr n).2
  refine congrArg (fun o : Fin 1024 → Fin 1024 => BitVec.ofNat 32 (neighbour node adjacent n (o ⟨k.val, by omega⟩)).val) ?_
  refine Eq.trans ?_ (order_eq la (neighbour node adjacent) n (r (ix1 n)) (hr n).1 (hr n).2 _ hla hz)
  refine congrArg (rowOrder beforeKey) (funext fun c => ?_)
  rw [keys_apply _ _ _ _ hnb, hs]

end Cert.ReferenceIdeal.Stages
-- ==== Proof.ReferenceRun.lean ====
module

public import proofs.«01_k».proof.Proof.ReferenceFirst
public import proofs.«01_k».proof.Proof.ReferenceSecond

/-!
# A run of the reference

The reference's two results as the stages of its computation, applied to its arguments.
-/

@[expose] public section

set_option maxRecDepth 8192

noncomputable section

namespace Cert.ReferenceIdeal.Run

open Idealize.ShloMosaic Idealize.ShloMosaic.TcCoe
open Idealize.ShloMosaic.StableHlo
open Cert.ReferenceIdeal Cert.ReferenceIdeal.Gen Cert.ReferenceIdeal.Value
open Cert.Attention
open Cert.ReferenceIdeal.Stages
open Cert.KernelIdeal.Tail (takeQuery takeHidden takeAdj takeScore expRows normRows joinLayers)

/-! ## The products -/

/-- The product with a square matrix plus a row. -/
theorem wide_eq (x : FVec Ideal S10000x128 .f32) (w : FVec Ideal S128x128 .f32) (b : FVec Ideal S1x128 .f32) :
    addf (Host.dotGeneral dot_S10000x128_S128x128_S10000x128_1_0_0_1_n_n none x w)
      (broadcastInDim S10000x128 ![0, 1] bcast_S1x128_S10000x128_0_1 b) = affine x w b := by
  funext j
  idx_vars j
  pointwise [affine]

/-- The product with a matrix of sixteen columns plus a row. -/
theorem narrow_eq (x : FVec Ideal S10000x128 .f32) (w : FVec Ideal S128x16 .f32) (b : FVec Ideal S1x16 .f32) :
    addf (Host.dotGeneral dot_S10000x128_S128x16_S10000x16_1_0_0_1_n_n none x w)
      (broadcastInDim S10000x16 ![0, 1] bcast_S1x16_S10000x16_0_1 b) = affine x w b := by
  funext j
  idx_vars j
  pointwise [affine]

/-! ## The arguments' arrays -/

variable (V : Valuation τ sig (Elt Ideal))

/-- The receptive field. -/
def rf : IVec S10000x32 32 := shapeCast S10000x32 (V main_arg1) shapeCasts_S1x10000x32_S10000x32

/-- The hidden rows. -/
def hidden : FVec Ideal S10000x128 .f32 :=
  affine (V main_arg0) (shapeCast S128x128 (V main_arg7) shapeCasts_S1x128x128_S128x128)
    (shapeCast S1x128 (V main_arg8) shapeCasts_S1x1x128_S1x128)

/-- The keys. -/
def key : FVec Ideal S10000x16 .f32 := affine (V main_arg0) (V main_arg9) (V main_arg10)

/-- The queries. -/
def query : FVec Ideal S10000x16 .f32 := affine (V main_arg0) (V main_arg11) (V main_arg12)

/-! ## The first result -/

/-- The hidden rows as the program computes them. -/
theorem v10_eq : res_main_v10 V = hidden V := wide_eq _ _ _

/-- The attention as the program computes it. -/
theorem v28_eq : res_main_v28 V
    = attention (key V) (takeQuery (query V) (shapeCast S320000 (rf V) shapeCasts_S10000x32_S320000)) := by
  unfold key query
  rw [← narrow_eq, ← narrow_eq]
  rfl

/-- The attention with the entries below zero scaled. -/
theorem v33_eq : res_main_v33 V = leaky (res_main_v28 V) := rfl

/-- The masked attention as the program computes it. -/
theorem v39_eq : res_main_v39 V = masked (rf V) (key V) (query V) := by
  unfold masked
  rw [← v28_eq, ← v33_eq]
  rfl

/-- The first softmax's exponentials. -/
theorem v46_eq : res_main_v46 V = expRows (res_main_v39 V) := rfl

/-- The first softmax's weights. -/
theorem v50_eq : res_main_v50 V = normRows (res_main_v46 V) := rfl

/-- The positions of the weights in falling order. -/
theorem v52_eq : res_main_v52 V = positions (res_main_v50 V) := rfl

/-- The weights in falling order. -/
theorem v53_eq : res_main_v53 V = sortRow (res_main_v50 V) (res_main_v52 V) := rfl

/-- The second softmax's exponentials. -/
theorem v60_eq : res_main_v60 V = expRows (res_main_v53 V) := rfl

/-- The positions in the flat list. -/
theorem v73_eq : res_main_v73 V = flatten (res_main_v52 V) := rfl

/-- The receptive field's nodes in the order of the weights. -/
theorem v74_eq : res_main_v74 V
    = takeList (shapeCast S320000 (rf V) shapeCasts_S10000x32_S320000) (res_main_v73 V) := rfl

/-- The weighted sum of the hidden rows is the first result. -/
theorem v83_eq : sumRows (normRows (res_main_v60 V)) (res_main_v10 V) (res_main_v74 V)
    = result1 (rf V) (hidden V) (key V) (query V) := by
  rw [v60_eq, v53_eq, v74_eq, v73_eq, v52_eq, v50_eq, v46_eq, v39_eq, v10_eq]
  rfl

/-! ## The second result -/

/-- The neighbours as the program computes them. -/
theorem v87_eq : res_main_v87 V = nbList (rf V) (V main_arg2) := rfl

/-- The sums of scores as the program computes them. -/
theorem v93_eq : res_main_v93 V = sums (nodeScore (res_main_v10 V) (V main_arg3) (V main_arg5))
    (nodeScore (res_main_v10 V) (V main_arg4) (V main_arg6)) (res_main_v87 V) := rfl

/-- The keys of the sort as the program computes them. -/
theorem v100_eq : res_main_v100 V = keys (res_main_v87 V) (res_main_v93 V) (least (res_main_v93 V)) := rfl

/-- The chosen positions in the flat list of neighbours. -/
theorem v111_eq : res_main_v111 V = flattenLong (firsts (res_main_v100 V)) := rfl

/-- The chosen neighbours are the second layer of the second result. -/
theorem v115_eq : shapeCast S10000x32 (takeNb (res_main_v87 V) (res_main_v111 V)) shapeCasts_S320000_S10000x32
    = layer2 (rf V) (V main_arg2) (nodeScore (hidden V) (V main_arg3) (V main_arg5))
        (nodeScore (hidden V) (V main_arg4) (V main_arg6)) := by
  rw [v111_eq, v100_eq, v93_eq, v87_eq, v10_eq]
  rfl

/-! ## The run -/

/-- Every run of the reference ends with its two results at these values and its arguments unchanged. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = result1 (rf (launchContents m c)) (hidden (launchContents m c))
        (key (launchContents m c)) (query (launchContents m c)) ∧
      r.2.mem ((c.tc : Thread nD τ).loc main_v115) = joinLayers (launchContents m c main_arg1)
        (layer2 (rf (launchContents m c)) (launchContents m c main_arg2)
          (nodeScore (hidden (launchContents m c)) (launchContents m c main_arg3) (launchContents m c main_arg5))
          (nodeScore (hidden (launchContents m c)) (launchContents m c main_arg4) (launchContents m c main_arg6))) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) :=
  (θ_run defs _ _).mono (fun _ h c => ⟨(h c).1.trans (v83_eq (launchContents m c)),
    (h c).2.1.trans (congrArg (joinLayers (launchContents m c main_arg1)) (v115_eq (launchContents m c))),
    (h c).2.2⟩) (Value.run m ρ)

end Cert.ReferenceIdeal.Run
-- ==== Proof.Conditions.lean ====
module

public import proofs.«01_k».proof.Pre_scores
public import proofs.«01_k».proof.On_unmasked
public import proofs.«01_k».proof.Proof.ReferenceRun
public import Idealize.ShloMosaic.Lib.ReduceAll

/-!
# What the precondition and the mask say

The precondition read back as facts about the entries of the arguments, and the mask read back as a fact about the row
of the receptive field it selects.
-/

@[expose] public section

set_option maxRecDepth 8192

noncomputable section

namespace Cert.Conditions

open Idealize.ShloMosaic
open Cert.Attention

/-! ## The side conditions of the two functions -/

/-- The side conditions of the precondition hold. -/
theorem scoresFacts : Cert.Pre_scores.Facts where
  shapeCasts_S1x128x128_S128x128 := by decide
  shapeCasts_S1x1x128_S1x128 := by decide
  bcast_S1x128_S10000x128_0_1 := by decide
  bcast_S1_S1x1_1 := by decide
  bcast_S1x1_S10000x1_0_1 := by decide
  bcast_S_S1x10000x32 := by decide
  reducesTo_S1x10000x32_S_d0_1_2 := by decide
  h_S_ := by decide
  bcast_S_S10000x32 := by decide
  reducesTo_S10000x32_S_d0_1 := by decide
  bcast_S_S10000x1 := by decide
  reducesTo_S10000x1_S_d0_1 := by decide
  dot_S10000x128_S128x128_S10000x128_1_0_0_1_n_n_wf := by decide
  dot_S10000x128_S128x1_S10000x1_1_0_0_1_n_n_wf := by decide

/-- The side conditions of the mask hold. -/
theorem unmaskedFacts : Cert.On_unmasked.Facts where
  shapeCasts_S1x10000x32_S10000x32 := by decide
  bcast_S_S10000x32 := by decide
  reducesTo_S10000x32_S10000_d1 := by decide
  h_S_ := by decide
  bcast_S10000_S10000x1_0 := by decide
  bcast_S10000x1_S10000x128_0_1 := by decide
  bcast_S_S2x10000x32 := by decide

/-! ## One comparison read back -/

/-- A word between zero and ten thousand is the word of such a number. -/
theorem word_of_bounds (w : BitVec 32)
    (h : IntOp.andi (IntOp.cmpi .sge w 0#32) (IntOp.cmpi .slt w 10000#32) = 1#1) : w.toNat < 10000 := by
  obtain ⟨h0, h1⟩ := IntOp.andi_eq_one.1 h
  have h0 : (0#32).toInt ≤ w.toInt := IntOp.cmpi_sge.1 h0
  have h1 : w.toInt < (10000#32).toInt := IntOp.cmpi_slt.1 h1
  have e0 : (0#32).toInt = 0 := by decide
  have e1 : (10000#32).toInt = 10000 := by decide
  rw [e0] at h0
  rw [e1] at h1
  have := BitVec.toInt_eq_toNat_cond w
  split at this <;> omega

/-- The pattern of plus infinity is plus infinity. -/
theorem ofBits_inf : Ideal.ofBits FTy.f32 0x7F800000#32 = (⊤ : EReal) := by
  simp [Ideal.ofBits, Ideal.ieee]

/-- A first number is above a second when their comparison came out one. -/
theorem gt_of_cmp (x y : EReal) (h : Ideal.cmp .ogt x y = 1#1) : y < x := by
  by_contra hn
  have : Ideal.cmp .ogt x y = 0#1 := congrArg BitVec.ofBool (decide_eq_false hn)
  rw [this] at h
  exact absurd h (by decide)

/-- A first number is below a second when their comparison came out one. -/
theorem lt_of_cmp (x y : EReal) (h : Ideal.cmp .olt x y = 1#1) : x < y := by
  by_contra hn
  have : Ideal.cmp .olt x y = 0#1 := congrArg BitVec.ofBool (decide_eq_false hn)
  rw [this] at h
  exact absurd h (by decide)

/-- A number whose absolute value is below plus infinity is a real number. -/
theorem real_of_abs (x : EReal) (h : Ideal.cmp .olt (FloatOps.hostAbsf (F := Ideal) (φ := .f32) x)
    (Ideal.ofBits FTy.f32 0x7F800000#32) = 1#1) : x ≠ ⊥ ∧ x ≠ ⊤ := by
  have h : max x (-x) < (Ideal.ofBits FTy.f32 0x7F800000#32 : EReal) := lt_of_cmp _ _ h
  rw [ofBits_inf, max_lt_iff] at h
  refine ⟨?_, h.1.ne⟩
  rintro rfl
  exact absurd h.2 (by simp)

/-- An array of words below ten thousand is an array of node numbers. -/
theorem nodes_of_words (w : IVec ⟨2, ![10000, 32]⟩ 32) (h : ∀ i, (w i).toNat < 10000) :
    ∃ node : Fin 10000 → Fin 32 → Fin 10000, ∀ n r, w (ix2 n r) = BitVec.ofNat 32 (node n r).val :=
  ⟨fun n r => ⟨(w (ix2 n r)).toNat, h _⟩, fun _ _ => by simp⟩

/-! ## The precondition -/

section Scores

open Cert.Pre_scores Cert.Pre_scores.Facts

variable [Cert.Pre_scores.Facts]

/-- A column of scores as the precondition computes it. -/
def column (x : FVec Ideal S10000x128 .f32) (W : FVec Ideal S1x128x128 .f32) (B : FVec Ideal S1x1x128 .f32)
    (w : FVec Ideal S128x1 .f32) (b : FVec Ideal S1 .f32) : FVec Ideal S10000x1 .f32 :=
  addf (Host.dotGeneral dot_S10000x128_S128x1_S10000x1_1_0_0_1_n_n none
      (addf (Host.dotGeneral dot_S10000x128_S128x128_S10000x128_1_0_0_1_n_n none x
          (shapeCast S128x128 W shapeCasts_S1x128x128_S128x128))
        (broadcastInDim S10000x128 ![0, 1] bcast_S1x128_S10000x128_0_1
          (shapeCast S1x128 B shapeCasts_S1x1x128_S1x128))) w)
    (broadcastInDim S10000x1 ![0, 1] bcast_S1x1_S10000x1_0_1 (broadcastInDim S1x1 ![1] bcast_S1_S1x1_1 b))

/-- The column's entries. -/
theorem column_apply (x : FVec Ideal S10000x128 .f32) (W : FVec Ideal S1x128x128 .f32) (B : FVec Ideal S1x1x128 .f32)
    (w : FVec Ideal S128x1 .f32) (b : FVec Ideal S1 .f32) (h : S1.numel = S1x1.numel) (n : Fin 10000) :
    column x W B w b (ix2 n 0)
      = affine (affine x (shapeCast S128x128 W shapeCasts_S1x128x128_S128x128)
          (shapeCast S1x128 B shapeCasts_S1x1x128_S1x128)) w (shapeCast S1x1 b h) (ix2 n 0) := by
  have e : addf (Host.dotGeneral dot_S10000x128_S128x128_S10000x128_1_0_0_1_n_n none x
          (shapeCast S128x128 W shapeCasts_S1x128x128_S128x128))
        (broadcastInDim S10000x128 ![0, 1] bcast_S1x128_S10000x128_0_1
          (shapeCast S1x128 B shapeCasts_S1x1x128_S1x128))
      = affine x (shapeCast S128x128 W shapeCasts_S1x128x128_S128x128)
          (shapeCast S1x128 B shapeCasts_S1x1x128_S1x128) := Cert.ReferenceIdeal.Run.wide_eq _ _ _
  unfold column
  rw [e]
  generalize affine x (shapeCast S128x128 W shapeCasts_S1x128x128_S128x128)
          (shapeCast S1x128 B shapeCasts_S1x1x128_S1x128) = y
  pointwise [affine]

/-- The precondition's parts, each an array of ones. -/
theorem scores_parts (x : FVec Ideal S10000x128 .f32) (rf : IVec S1x10000x32 32) (adj : IVec S10000x32 32)
    (la ra : FVec Ideal S128x1 .f32) (bla bra : FVec Ideal S1 .f32) (W : FVec Ideal S1x128x128 .f32)
    (B : FVec Ideal S1x1x128 .f32) (wk : FVec Ideal S128x16 .f32) (bk : FVec Ideal S1x16 .f32)
    (wq : FVec Ideal S128x16 .f32) (bq : FVec Ideal S1x16 .f32)
    (h : Cert.Pre_scores.fn (F := Ideal) x rf adj la ra bla bra W B wk bk wq bq = fun _ => 1#1) :
    (∀ i, IntOp.andi (IntOp.cmpi .sge (rf i) 0#32) (IntOp.cmpi .slt (rf i) 10000#32) = 1#1)
    ∧ (∀ i, IntOp.andi (IntOp.cmpi .sge (adj i) 0#32) (IntOp.cmpi .slt (adj i) 10000#32) = 1#1)
    ∧ (∀ i, IntOp.andi (Ideal.cmp .ogt (column x W B la bla i) (Ideal.ofBits FTy.f32 0xF149F2CA#32))
        (Ideal.cmp .olt (column x W B la bla i) (Ideal.ofBits FTy.f32 0x7F800000#32)) = 1#1)
    ∧ (∀ i, Ideal.cmp .olt (FloatOps.hostAbsf (F := Ideal) (φ := .f32) (column x W B ra bra i))
        (Ideal.ofBits FTy.f32 0x7F800000#32) = 1#1) := by
  have e : IntOp.andi (IntOp.andi (IntOp.andi
      (Host.reduce IntOp.andi (andi (cmpi .sge rf (broadcastInDim S1x10000x32 ![] bcast_S_S1x10000x32 (constantI S_ 32 0#32)))
        (cmpi .slt rf (broadcastInDim S1x10000x32 ![] bcast_S_S1x10000x32 (constantI S_ 32 10000#32))))
        (constantI S_ 1 1#1) reducesTo_S1x10000x32_S_d0_1_2 h_S_ ix0)
      (Host.reduce IntOp.andi (andi (cmpi .sge adj (broadcastInDim S10000x32 ![] bcast_S_S10000x32 (constantI S_ 32 0#32)))
        (cmpi .slt adj (broadcastInDim S10000x32 ![] bcast_S_S10000x32 (constantI S_ 32 10000#32))))
        (constantI S_ 1 1#1) reducesTo_S10000x32_S_d0_1 h_S_ ix0))
      (Host.reduce IntOp.andi (andi
        (cmpf .ogt (column x W B la bla) (broadcastInDim S10000x1 ![] bcast_S_S10000x1 (constant S_ .f32 0xF149F2CA#32)))
        (cmpf .olt (column x W B la bla) (broadcastInDim S10000x1 ![] bcast_S_S10000x1 (constant S_ .f32 0x7F800000#32))))
        (constantI S_ 1 1#1) reducesTo_S10000x1_S_d0_1 h_S_ ix0))
      (Host.reduce IntOp.andi (cmpf .olt (Host.absf (column x W B ra bra))
          (broadcastInDim S10000x1 ![] bcast_S_S10000x1 (constant S_ .f32 0x7F800000#32)))
        (constantI S_ 1 1#1) reducesTo_S10000x1_S_d0_1 h_S_ ix0) = 1#1 := congrFun h ix0
  obtain ⟨e, e4⟩ := IntOp.andi_eq_one.1 e
  obtain ⟨e, e3⟩ := IntOp.andi_eq_one.1 e
  obtain ⟨e1, e2⟩ := IntOp.andi_eq_one.1 e
  haveI : Subsingleton S_.Idx := ⟨fun a b => funext fun d => d.elim0⟩
  exact ⟨fun i => Host.reduce_andi_all _ _ _ _ _ e1 i, fun i => Host.reduce_andi_all _ _ _ _ _ e2 i,
    fun i => Host.reduce_andi_all _ _ _ _ _ e3 i, fun i => Host.reduce_andi_all _ _ _ _ _ e4 i⟩

/-- What the precondition says of the arguments: the receptive field and the table of neighbours hold node numbers,
every left score lies above the kernel's mask number and below plus infinity, and every right score is a real number. -/
theorem scores_hold (x : FVec Ideal S10000x128 .f32) (rf : IVec S1x10000x32 32) (adj : IVec S10000x32 32)
    (la ra : FVec Ideal S128x1 .f32) (bla bra : FVec Ideal S1 .f32) (W : FVec Ideal S1x128x128 .f32)
    (B : FVec Ideal S1x1x128 .f32) (wk : FVec Ideal S128x16 .f32) (bk : FVec Ideal S1x16 .f32)
    (wq : FVec Ideal S128x16 .f32) (bq : FVec Ideal S1x16 .f32)
    (h : Cert.Pre_scores.fn (F := Ideal) x rf adj la ra bla bra W B wk bk wq bq = fun _ => 1#1)
    (hrf : S1x10000x32.ShapeCasts S10000x32) (hb : S1.ShapeCasts S1x1) :
    (∃ node : Fin 10000 → Fin 32 → Fin 10000,
        ∀ n r, shapeCast S10000x32 rf hrf (ix2 n r) = BitVec.ofNat 32 (node n r).val)
    ∧ (∃ adjacent : Fin 10000 → Fin 32 → Fin 10000, ∀ n r, adj (ix2 n r) = BitVec.ofNat 32 (adjacent n r).val)
    ∧ (∀ k : Fin 10000, Ideal.ofBits FTy.f32 0xF149F2CA#32 < affine (affine x (shapeCast S128x128 W
          shapeCasts_S1x128x128_S128x128) (shapeCast S1x128 B shapeCasts_S1x1x128_S1x128)) la (shapeCast S1x1 bla hb) (ix2 k 0)
        ∧ affine (affine x (shapeCast S128x128 W shapeCasts_S1x128x128_S128x128) (shapeCast S1x128 B
          shapeCasts_S1x1x128_S1x128)) la (shapeCast S1x1 bla hb) (ix2 k 0) < (⊤ : EReal))
    ∧ (∀ k : Fin 10000, affine (affine x (shapeCast S128x128 W shapeCasts_S1x128x128_S128x128) (shapeCast S1x128 B
          shapeCasts_S1x1x128_S1x128)) ra (shapeCast S1x1 bra hb) (ix2 k 0) ≠ (⊥ : EReal)
        ∧ affine (affine x (shapeCast S128x128 W shapeCasts_S1x128x128_S128x128) (shapeCast S1x128 B
          shapeCasts_S1x1x128_S1x128)) ra (shapeCast S1x1 bra hb) (ix2 k 0) ≠ (⊤ : EReal)) := by
  obtain ⟨h1, h2, h3, h4⟩ := scores_parts x rf adj la ra bla bra W B wk bk wq bq h
  refine ⟨nodes_of_words _ fun i => ?_, nodes_of_words _ fun i => word_of_bounds _ (h2 i), fun k => ?_, fun k => ?_⟩
  · obtain ⟨j, hj⟩ : ∃ j, shapeCast S10000x32 rf hrf i = rf j := ⟨_, rfl⟩
    rw [hj]
    exact word_of_bounds _ (h1 j)
  · obtain ⟨ha, hc⟩ := IntOp.andi_eq_one.1 (h3 (ix2 k 0))
    rw [← column_apply x W B la bla hb k, ← ofBits_inf]
    exact ⟨gt_of_cmp _ _ ha, lt_of_cmp _ _ hc⟩
  · rw [← column_apply x W B ra bra hb k]
    exact real_of_abs _ (h4 (ix2 k 0))

end Scores

/-! ## The mask -/

section Unmasked

open Cert.On_unmasked Cert.On_unmasked.Facts

variable [Cert.On_unmasked.Facts]

/-- Where the mask of the first result is one, the node's receptive field does not hold the last node's word. -/
theorem unmasked_row (x : FVec Ideal S10000x128 .f32) (rf : IVec S1x10000x32 32) (adj : IVec S10000x32 32)
    (la ra : FVec Ideal S128x1 .f32) (bla bra : FVec Ideal S1 .f32) (W : FVec Ideal S1x128x128 .f32)
    (B : FVec Ideal S1x1x128 .f32) (wk : FVec Ideal S128x16 .f32) (bk : FVec Ideal S1x16 .f32)
    (wq : FVec Ideal S128x16 .f32) (bq : FVec Ideal S1x16 .f32) (n : Fin 10000) (f : Fin 128)
    (h : (Cert.On_unmasked.fn (F := Ideal) x rf adj la ra bla bra W B wk bk wq bq).1 (ix2 n f) = 1#1) (r : Fin 32) :
    shapeCast S10000x32 rf shapeCasts_S1x10000x32_S10000x32 (ix2 n r) ≠ 9999#32 := by
  have e : Host.reduce IntOp.andi (cmpi .ne (shapeCast S10000x32 rf shapeCasts_S1x10000x32_S10000x32)
      (broadcastInDim S10000x32 ![] bcast_S_S10000x32 (constantI S_ 32 9999#32))) (constantI S_ 1 1#1)
      reducesTo_S10000x32_S10000_d1 h_S_ (ix1 n) = 1#1 := by
    refine Eq.trans ?_ h
    unfold Cert.On_unmasked.fn
    dsimp only
    generalize Host.reduce IntOp.andi (cmpi .ne (shapeCast S10000x32 rf shapeCasts_S1x10000x32_S10000x32)
      (broadcastInDim S10000x32 ![] bcast_S_S10000x32 (constantI S_ 32 9999#32))) (constantI S_ 1 1#1)
      reducesTo_S10000x32_S10000_d1 h_S_ = y
    pointwise []
  have hd : reducesTo_S10000x32_S10000_d1.drop (ix2 n r) = ix1 n := by
    funext d
    match d with
    | ⟨0, _⟩ => rfl
  exact IntOp.cmpi_ne.1 (Host.reduce_andi_eq_one _ _ _ _ _ e (ix2 n r) hd)

end Unmasked

end Cert.Conditions
-- ==== Proof.Agreement.lean ====
module

public import proofs.«01_k».proof.Proof.KernelRun
public import proofs.«01_k».proof.Proof.Conditions

/-!
# The two programs' results are the same numbers

Both programs' results as functions of the same arrays: the first results agree on the rows whose receptive field does
not name the last node, the second results agree everywhere.
-/

@[expose] public section

set_option maxRecDepth 8192

noncomputable section

namespace Cert.Agreement

open Idealize.ShloMosaic
open Cert.KernelIdeal Cert.KernelIdeal.Gen
open Cert.Attention

/-- Equal arrays have equal products plus rows. -/
theorem affine_congr {n k p : Nat} {x x' : FVec Ideal ⟨2, ![n, k]⟩ .f32} {w w' : FVec Ideal ⟨2, ![k, p]⟩ .f32}
    {b b' : FVec Ideal ⟨2, ![1, p]⟩ .f32} (hx : x = x') (hw : w = w') (hb : b = b') : affine x w b = affine x' w' b' := by
  rw [hx, hw, hb]

/-- Equal arrays recast alike. -/
theorem shapeCast_congr {α : Type} {s t : Shape} {x x' : s.Idx → α} (hx : x = x') (h : s.ShapeCasts t) :
    shapeCast t x h = shapeCast t x' h := by
  rw [hx]

/-- On a row that does not name the last node the two first results are the same. -/
theorem first_eq (rf : IVec S10000x32 32) (node : Fin 10000 → Fin 32 → Fin 10000)
    (hrf : ∀ n r, rf (ix2 n r) = BitVec.ofNat 32 (node n r).val) (hid : FVec Ideal S10000x128 .f32)
    (key query : FVec Ideal S10000x16 .f32) (n : Fin 10000) (f : Fin 128) (h : ∀ r, rf (ix2 n r) ≠ 9999#32) :
    Cert.ReferenceIdeal.Stages.result1 rf hid key query (ix2 n f)
      = Cert.KernelIdeal.Tail.result1 rf hid key query (ix2 n f) := by
  have hn : ∀ r, (node n r).val ≠ 9999 := fun r e => h r ((hrf n r).trans (by rw [e]))
  exact (Cert.ReferenceIdeal.Stages.result1_apply rf node hrf hid key query n hn f).trans
    (Cert.Attention.result1_apply rf node hrf hid key query n hn f).symm

/-- The reference's second result of equal arrays is equal. -/
theorem second_congr {rf0 rf0' : IVec S1x10000x32 32} (rf : IVec S10000x32 32) {adj adj' : IVec S10000x32 32}
    (hid : FVec Ideal S10000x128 .f32) {wl wl' wr wr' : FVec Ideal S128x1 .f32} {bl bl' br br' : FVec Ideal S1 .f32}
    (e1 : rf0 = rf0') (e2 : adj = adj') (e3 : wl = wl') (e4 : wr = wr') (e5 : bl = bl') (e6 : br = br') :
    Cert.KernelIdeal.Tail.joinLayers rf0 (Cert.ReferenceIdeal.Stages.layer2 rf adj
        (Cert.ReferenceIdeal.Stages.nodeScore hid wl bl) (Cert.ReferenceIdeal.Stages.nodeScore hid wr br))
      = Cert.KernelIdeal.Tail.joinLayers rf0' (Cert.ReferenceIdeal.Stages.layer2 rf adj'
        (Cert.ReferenceIdeal.Stages.nodeScore hid wl' bl') (Cert.ReferenceIdeal.Stages.nodeScore hid wr' br')) := by
  rw [e1, e2, e3, e4, e5, e6]

/-- The two second results are the same when the left scores lie above the mask number and below plus infinity and the
right scores are real numbers. -/
theorem second_eq (rf0 : IVec S1x10000x32 32) (rf adj : IVec S10000x32 32)
    (node adjacent : Fin 10000 → Fin 32 → Fin 10000)
    (hrf : ∀ n r, rf (ix2 n r) = BitVec.ofNat 32 (node n r).val)
    (hadj : ∀ n r, adj (ix2 n r) = BitVec.ofNat 32 (adjacent n r).val) (hid : FVec Ideal S10000x128 .f32)
    (wl wr : FVec Ideal S128x1 .f32) (bl br : FVec Ideal S1 .f32) (hb : S1.ShapeCasts S1x1)
    (hl : ∀ k : Fin 10000, Ideal.ofBits FTy.f32 0xF149F2CA#32 < affine hid wl (shapeCast S1x1 bl hb) (ix2 k 0)
      ∧ affine hid wl (shapeCast S1x1 bl hb) (ix2 k 0) < (⊤ : EReal))
    (hr : ∀ k : Fin 10000, affine hid wr (shapeCast S1x1 br hb) (ix2 k 0) ≠ (⊥ : EReal)
      ∧ affine hid wr (shapeCast S1x1 br hb) (ix2 k 0) ≠ (⊤ : EReal)) :
    Cert.KernelIdeal.Tail.joinLayers rf0 (Cert.ReferenceIdeal.Stages.layer2 rf adj
        (Cert.ReferenceIdeal.Stages.nodeScore hid wl bl) (Cert.ReferenceIdeal.Stages.nodeScore hid wr br))
      = Cert.KernelIdeal.Tail.result2 rf0 rf adj (affine hid wl (shapeCast S1x1 bl hb)) := by
  unfold Cert.KernelIdeal.Tail.result2
  refine congrArg (Cert.KernelIdeal.Tail.joinLayers rf0) (funext fun j => ?_)
  obtain ⟨n, k, rfl⟩ : ∃ n k, j = ix2 n k := by
    idx_vars j
    exact ⟨_, _, rfl⟩
  refine Eq.trans ?_ (Cert.Attention.result2_apply rf0 rf adj _ node adjacent hrf hadj n k).symm
  exact Cert.ReferenceIdeal.Stages.layer2_apply rf adj _ _ _ node adjacent hrf hadj
    (fun n => Cert.ReferenceIdeal.Stages.nodeScore_apply hid wl bl hb n) hl
    (fun n => by rw [Cert.ReferenceIdeal.Stages.nodeScore_apply hid wr br hb n]; exact hr n) n k

end Cert.Agreement
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agreement
public import Idealize.ShloMosaic.Adequacy
public import Idealize.ShloMosaic.Init

@[expose] public section

noncomputable section

namespace Cert.Proof

open Idealize.ShloMosaic Idealize.SL.Sem
open Cert.KernelIdeal (main_arg0 main_arg1 main_arg2 main_arg3 main_arg4 main_arg5 main_arg6 main_arg7 main_arg8 main_arg9
  main_arg10 main_arg11 main_arg12)

/-- The reference runs, leaves its arguments as they were, and every counter at zero. -/
theorem reference_frame : Cert.quiescent_ReferenceIdeal (hReferenceIdeal := Cert.ReferenceIdeal.Gen.facts) :=
  fun m ρ _ => (θ_run _ _ _).mono (fun r h => ⟨fun c => (h c).2.2, sem_eq_zero_of_no_sems (by decide) r.2⟩)
    (Cert.ReferenceIdeal.Run.run_results m ρ)

/-- The kernel and the reference end with the same results wherever the mask is one. -/
theorem agreement : Cert.algebraic_KernelIdeal_ReferenceIdeal_on_unmasked_pre_scores
    (hKernelIdeal := Cert.KernelIdeal.Gen.facts) (hReferenceIdeal := Cert.ReferenceIdeal.Gen.facts)
    (hPre_scores := Cert.Conditions.scoresFacts) (hOn_unmasked := Cert.Conditions.unmaskedFacts) := by
  letI := Cert.Conditions.scoresFacts
  letI := Cert.Conditions.unmaskedFacts
  intro m g m' g' hpre hargs
  refine ⟨fun c => Cert.KernelIdeal.Run.out1 m c, fun c => Cert.KernelIdeal.Run.out2 m c, ?_, ?_⟩
  · refine (θ_run _ _ _).mono (fun r h c => ⟨fun i _ => congrFun (h.1.1 c).1 i, fun i _ => congrFun (h.1.1 c).2 i, h.2 c⟩)
      (θ_run_and (Cert.KernelIdeal.Run.run_results m g) (Cert.KernelIdeal.Gen.unchanged m g))
  · refine (θ_run _ _ _).mono (fun r h c => ?_) (Cert.ReferenceIdeal.Run.run_results m' g')
    obtain ⟨h1, h2, hrest⟩ := h c
    obtain ⟨a0, a1, a2, a3, a4, a5, a6, a7, a8, a9, a10, a11, a12⟩ := hargs c
    obtain ⟨⟨node, hrf⟩, ⟨adjacent, hadj⟩, hl, hr⟩ := Cert.Conditions.scores_hold _ _ _ _ _ _ _ _ _ _ _ _ _ (hpre c)
      Cert.KernelIdeal.Gen.shapeCasts_S1x10000x32_S10000x32 Cert.KernelIdeal.Gen.shapeCasts_S1_S1x1
    have erf : Cert.ReferenceIdeal.Run.rf (StableHlo.launchContents m' c) = Cert.KernelIdeal.Run.rf m c :=
      Cert.Agreement.shapeCast_congr a1 _
    have ehid : Cert.ReferenceIdeal.Run.hidden (StableHlo.launchContents m' c) = Cert.KernelIdeal.Run.hidden m c :=
      Cert.Agreement.affine_congr a0 (Cert.Agreement.shapeCast_congr a7 _) (Cert.Agreement.shapeCast_congr a8 _)
    have ekey : Cert.ReferenceIdeal.Run.key (StableHlo.launchContents m' c) = Cert.KernelIdeal.Run.key m c :=
      Cert.Agreement.affine_congr a0 a9 a10
    have equery : Cert.ReferenceIdeal.Run.query (StableHlo.launchContents m' c) = Cert.KernelIdeal.Run.query m c :=
      Cert.Agreement.affine_congr a0 a11 a12
    refine ⟨fun i hi => ?_, fun i _ => ?_, hrest⟩
    · obtain ⟨n, f, rfl⟩ : ∃ n f, i = ix2 n f := by
        idx_vars i
        exact ⟨_, _, rfl⟩
      refine (congrFun h1 (ix2 n f)).trans ?_
      rw [erf, ehid, ekey, equery]
      exact Cert.Agreement.first_eq _ node hrf _ _ _ n f
        (Cert.Conditions.unmasked_row _ _ _ _ _ _ _ _ _ _ _ _ _ n f hi)
    · refine congrFun (h2.trans ?_) i
      rw [erf, ehid]
      exact (Cert.Agreement.second_congr _ _ a1 a2 a3 a4 a5 a6).trans
        (Cert.Agreement.second_eq _ _ _ node adjacent hrf hadj _ _ _ _ _ Cert.KernelIdeal.Gen.shapeCasts_S1_S1x1 hl hr)

/-- Every claim of the certificate. -/
theorem claim : Cert.Claim := ⟨Cert.Kernel.Gen.facts, Cert.KernelIdeal.Gen.facts, Cert.ReferenceIdeal.Gen.facts,
  Cert.Conditions.scoresFacts, Cert.Conditions.unmaskedFacts,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial,
  trivial, agreement⟩

end Cert.Proof

end
